-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0))).1 = (fun _ => 1#1)
    ∧ (Cert.Pre_gqa_finite.fn (F := Ideal) (m ((c.tc : Thread Cert.GqaIdeal.nD Cert.GqaIdeal.τ).loc Cert.GqaIdeal.main_arg0))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0))).1 = (fun _ => 1#1)
    ∧ (Cert.Pre_gqa_finite.fn (F := Ideal) (m ((c.tc : Thread Cert.GqaRefIdeal.nD Cert.GqaRefIdeal.τ).loc Cert.GqaRefIdeal.main_arg0))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v26) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0))

def preserves_Merge_MergeIdeal : Prop :=
  IdealRules.named_const.Statement Cert.MergeIdeal.κ "x_scale" .f32 0x3E0293EE#32 (((Real.sqrt 128)⁻¹ * (Real.log 2)⁻¹ : ℝ) : EReal)

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v96) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Inproj_InprojIdeal : Prop :=
  IdealRules.named_const.Statement Cert.InprojIdeal.κ "q_scale" .f32 0x3E38AA3B#32 ((8⁻¹ * (Real.log 2)⁻¹ : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v43_0)) (v1 : (c : Dev Cert.InprojIdeal.nD) → Buf (Elt Ideal) ((c.tc : Thread Cert.InprojIdeal.nD Cert.InprojIdeal.τ).loc Cert.InprojIdeal.main_v43_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v43_0) = v0 c
          ∧ r.2.mem ((c.tc : Thread Cert.InprojIdeal.nD Cert.InprojIdeal.τ).loc Cert.InprojIdeal.main_v43_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v105) = v0 c
          ∧ r.2.mem ((c.tc : Thread Cert.InprojRefIdeal.nD Cert.InprojRefIdeal.τ).loc Cert.InprojRefIdeal.main_v104) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def Claim : Prop :=
  ∃ (hGqa : Cert.Gqa.Facts) (hGqaIdeal : Cert.GqaIdeal.Facts) (hGqaRefIdeal : Cert.GqaRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_gqa_finite : Cert.Pre_gqa_finite.Facts) (hPre_merge_finite : Cert.Pre_merge_finite.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Inproj (hInproj := hInproj)
    ∧ quiescent_InprojIdeal (hInprojIdeal := hInprojIdeal)
    ∧ quiescent_InprojRefIdeal (hInprojRefIdeal := hInprojRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Inproj_InprojIdeal
    ∧ algebraic_InprojIdeal_InprojRefIdeal (hInprojIdeal := hInprojIdeal) (hInprojRefIdeal := hInprojRefIdeal)
-- ==== Pre_gqa_finite.lean ====
abbrev S32768x6400 : Shape := ⟨2, ![32768, 6400]⟩
abbrev S32768x512 : Shape := ⟨2, ![32768, 512]⟩
abbrev S_ : Shape := ⟨0, ![]⟩
abbrev S32768x128 : Shape := ⟨2, ![32768, 128]⟩

class Facts : Prop where
  bitsLt_bf16_f32 : FTy.bits .bf16 < FTy.bits .f32
  slices_S32768x6400_S32768x512_0_5120 : S32768x6400.Slices ![0, 5120] S32768x512
  bcast_S_S32768x512 : S_.BroadcastsInDim S32768x512 (![] : Fin 0 → Fin S32768x512.rank)
  slices_S32768x6400_S32768x128_0_6144 : S32768x6400.Slices ![0, 6144] S32768x128
  bcast_S_S32768x128 : S_.BroadcastsInDim S32768x128 (![] : Fin 0 → Fin S32768x128.rank)

variable [Facts]

def fn {F : FTy → Type} [FloatOps F] (main_arg0 : FVec F S32768x6400 .bf16) : IVec S32768x512 1 × IVec S32768x128 1 :=
  let main_v0 : FVec F S32768x6400 .f32 := (extf .f32 · bitsLt_bf16_f32) main_arg0
  let main_v1 : FVec F S32768x512 .f32 := (extractStridedSlice S32768x512 ![0, 5120] · slices_S32768x6400_S32768x512_0_5120) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_v5 : FVec F S32768x128 .f32 := (extractStridedSlice S32768x128 ![0, 6144] · slices_S32768x6400_S32768x128_0_6144) main_v0
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  (main_v4, main_v8)
-- ==== Pre_merge_finite.lean ====
abbrev S32768x1024 : Shape := ⟨2, ![32768, 1024]⟩
abbrev S32768x6400 : Shape := ⟨2, ![32768, 6400]⟩
abbrev S32768x512 : Shape := ⟨2, ![32768, 512]⟩
abbrev S4096x1024 : Shape := ⟨2, ![4096, 1024]⟩
abbrev S1x1024 : Shape := ⟨2, ![1, 1024]⟩
abbrev S1x1024x1024 : Shape := ⟨3, ![1, 1024, 1024]⟩
abbrev S1x3x512x1024 : Shape := ⟨4, ![1, 3, 512, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩

class Facts : Prop where
  slices_S32768x6400_S32768x512_0_5632 : S32768x6400.Slices ![0, 5632] S32768x512
  bitsLt_bf16_f32 : FTy.bits .bf16 < FTy.bits .f32
  bcast_S_S32768x512 : S_.BroadcastsInDim S32768x512 (![] : Fin 0 → Fin S32768x512.rank)
  bcast_S_S1x1024 : S_.BroadcastsInDim S1x1024 (![] : Fin 0 → Fin S1x1024.rank)
  slices_S1x1024x1024_S1x1024x512_0_0_0 : S1x1024x1024.Slices ![0, 0, 0] S1x1024x512
  shapeCasts_S1x1024x512_S1024x512 : S1x1024x512.ShapeCasts S1024x512
  bcast_S_S1024x512 : S_.BroadcastsInDim S1024x512 (![] : Fin 0 → Fin S1024x512.rank)

variable [Facts]

def fn {F : FTy → Type} [FloatOps F] (main_arg0 : FVec F S32768x1024 .f32) (main_arg1 : FVec F S32768x6400 .bf16) (main_arg2 : FVec F S32768x512 .bf16) (main_arg3 : FVec F S32768x512 .bf16) (main_arg4 : FVec F S4096x1024 .f32) (main_arg5 : FVec F S1x1024 .f32) (main_arg6 : FVec F S1x1024x1024 .f32) (main_arg7 : FVec F S1x3x512x1024 .f32) (main_arg8 : FVec F S1x1024x1024 .f32) (main_arg9 : FVec F S1x1024 .f32) (main_arg10 : FVec F S1x1024x4096 .f32) (main_arg11 : FVec F S1x4096x1024 .f32) (main_arg12 : FVec F S1024 .f32) : IVec S32768x512 1 × IVec S1x1024 1 × IVec S1024x512 1 :=
  let main_v0 : FVec F S32768x512 .bf16 := (extractStridedSlice S32768x512 ![0, 5632] · slices_S32768x6400_S32768x512_0_5632) main_arg1
  let main_v1 : FVec F S32768x512 .f32 := (extf .f32 · bitsLt_bf16_f32) main_v0
  let main_v2 : FVec F S32768x512 .f32 := Host.absf main_v1
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_v5 : FVec F S1x1024 .f32 := Host.absf main_arg5
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_v8 : FVec F S1x1024x512 .f32 := (extractStridedSlice S1x1024x512 ![0, 0, 0] · slices_S1x1024x1024_S1x1024x512_0_0_0) main_arg6
  let main_v9 : FVec F S1024x512 .f32 := shapeCast S1024x512 main_v8 shapeCasts_S1x1024x512_S1024x512
  let main_v10 : FVec F S1024x512 .f32 := Host.absf main_v9
  let main_cst_1 : FVec F S_ .f32 := constant S_ .f32 0x7F800000#32
  let main_v11 : FVec F S1024x512 .f32 := broadcastInDim S1024x512 ![] bcast_S_S1024x512 main_cst_1
  let main_v12 : IVec S1024x512 1 := cmpf .olt main_v10 main_v11
  (main_v4, main_v7, main_v12)
-- ==== Gqa.lean ====
abbrev S32768x6400 : Shape := ⟨2, ![32768, 6400]⟩
abbrev S32768x512 : Shape := ⟨2, ![32768, 512]⟩
abbrev S512x256 : Shape := ⟨2, ![512, 256]⟩
abbrev S2048x128 : Shape := ⟨2, ![2048, 128]⟩
abbrev S1x128 : Shape := ⟨2, ![1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 2
  | .vmem => 12
  | .smem => 0
  | _ => 0

abbrev bufTy : (tb : Table) → Fin (tcTables nBuf tb) → BufTy
  | .hbm, ⟨0, _⟩ => ⟨S32768x6400, .bf16⟩
  | .hbm, ⟨1, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x256, .bf16⟩
  | .local _ .vmem, ⟨7, _⟩ => ⟨S512x256, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | _, _ => ⟨S32768x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let c0_i32 : BitVec 32 := 0#32
  ![arg0.toNat, c48_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c49_i32 : BitVec 32 := 49#32
  let c0_i32 : BitVec 32 := 0#32
  ![arg0.toNat, c49_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S32768x6400 : Shape := ⟨2, ![32768, 6400]⟩
abbrev S32768x512 : Shape := ⟨2, ![32768, 512]⟩
abbrev S16x2048x2x4x64 : Shape := ⟨5, ![16, 2048, 2, 4, 64]⟩
abbrev S32768x128 : Shape := ⟨2, ![32768, 128]⟩
abbrev S16x2048x2x64 : Shape := ⟨4, ![16, 2048, 2, 64]⟩
abbrev S16x2x2048x2048x4 : Shape := ⟨5, ![16, 2, 2048, 2048, 4]⟩
abbrev S16x2x4x2048x2048 : Shape := ⟨5, ![16, 2, 4, 2048, 2048]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x6400, .bf16⟩
  | .hbm, ⟨1, _⟩ => ⟨S32768x6400, .f32⟩
  | .hbm, ⟨2, _⟩ => ⟨S32768x512, .f32⟩
  | .hbm, ⟨3, _⟩ => ⟨S16x2048x2x4x64, .f32⟩
  | .hbm, ⟨4, _⟩ => ⟨S32768x128, .f32⟩
  | .hbm, ⟨5, _⟩ => ⟨S16x2048x2x64, .f32⟩
  | .hbm, ⟨6, _⟩ => ⟨S32768x128, .f32⟩
  | .hbm, ⟨7, _⟩ => ⟨S16x2048x2x64, .f32⟩
  | .hbm, ⟨8, _⟩ => ⟨S16x2x2048x2048x4, .f32⟩
  | .hbm, ⟨9, _⟩ => ⟨S16x2x4x2048x2048, .f32⟩
  | .hbm, ⟨10, _⟩ => ⟨S_, .f32⟩
  | .hbm, ⟨11, _⟩ => ⟨S_, .f32⟩
  | .hbm, ⟨12, _⟩ => ⟨S16x2x4x2048x2048, .f32⟩
  | .hbm, ⟨13, _⟩ => ⟨S16x2x4x2048x2048, .f32⟩
  | .hbm, ⟨14, _⟩ => ⟨S_, .f32⟩
  | .hbm, ⟨15, _⟩ => ⟨S16x2x4x2048, .f32⟩
  | .hbm, ⟨16, _⟩ => ⟨S_, .f32⟩
  | .hbm, ⟨17, _⟩ => ⟨S16x2x4x2048, .f32⟩
  | .hbm, ⟨18, _⟩ => ⟨S16x2x4x2048, .f32⟩
  | .hbm, ⟨19, _⟩ => ⟨S16x2x4x2048x1, .f32⟩
  | .hbm, ⟨20, _⟩ => ⟨S16x2x4x2048x2048, .f32⟩
  | .hbm, ⟨21, _⟩ => ⟨S16x2x4x2048x2048, .f32⟩
  | .hbm, ⟨22, _⟩ => ⟨S16x2x4x2048x2048, .f32⟩
  | .hbm, ⟨23, _⟩ => ⟨S_, .f32⟩
  | .hbm, ⟨24, _⟩ => ⟨S16x2x4x2048, .f32⟩
  | .hbm, ⟨25, _⟩ => ⟨S16x2x4x2048x1, .f32⟩
  | .hbm, ⟨26, _⟩ => ⟨S16x2x4x2048x2048, .f32⟩
  | .hbm, ⟨27, _⟩ => ⟨S16x2x4x2048x2048, .f32⟩
  | .hbm, ⟨28, _⟩ => ⟨S16x2x64x4x2048, .f32⟩
  | .hbm, ⟨29, _⟩ => ⟨S16x2048x2x4x64, .f32⟩
  | .hbm, ⟨30, _⟩ => ⟨S32768x512, .f32⟩
  | .hbm, ⟨31, _⟩ => ⟨S32768x512, .bf16⟩
  | _, _ => ⟨S32768x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Merge.lean ====
abbrev S32768x1024 : Shape := ⟨2, ![32768, 1024]⟩
abbrev S32768x6400 : Shape := ⟨2, ![32768, 6400]⟩
abbrev S32768x512 : Shape := ⟨2, ![32768, 512]⟩
abbrev S4096x1024 : Shape := ⟨2, ![4096, 1024]⟩
abbrev S1x1024 : Shape := ⟨2, ![1, 1024]⟩
abbrev S1x1024x1024 : Shape := ⟨3, ![1, 1024, 1024]⟩
abbrev S1x3x512x1024 : Shape := ⟨4, ![1, 3, 512, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S3x512x1024 : Shape := ⟨3, ![3, 512, 1024]⟩
abbrev S1024x4096 : Shape := ⟨2, ![1024, 4096]⟩
abbrev S512x1024 : Shape := ⟨2, ![512, 1024]⟩
abbrev S512x3072 : Shape := ⟨2, ![512, 3072]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x512x1024 : Shape := ⟨3, ![1, 512, 1024]⟩

abbrev nBuf : Space → Nat
  | .hbm => 29
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x6400, .bf16⟩
  | .hbm, ⟨2, _⟩ => ⟨S32768x512, .bf16⟩
  | .hbm, ⟨3, _⟩ => ⟨S32768x512, .bf16⟩
  | .hbm, ⟨4, _⟩ => ⟨S4096x1024, .f32⟩
  | .hbm, ⟨5, _⟩ => ⟨S1x1024, .f32⟩
  | .hbm, ⟨6, _⟩ => ⟨S1x1024x1024, .f32⟩
  | .hbm, ⟨7, _⟩ => ⟨S1x3x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S3x512x1024, .f32⟩
  | .hbm, ⟨18, _⟩ => ⟨S3x512x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024x4096, .f32⟩
  | .hbm, ⟨24, _⟩ => ⟨S1024x4096, .bf16⟩
  | .hbm, ⟨25, _⟩ => ⟨S4096x1024, .f32⟩
  | .hbm, ⟨26, _⟩ => ⟨S4096x1024, .bf16⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1024x1024, .bf16⟩
  | .local _ .vmem, ⟨14, _⟩ => ⟨S3x512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S256x512, .bf16⟩
  | .local _ .vmem, ⟨23, _⟩ => ⟨S256x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeIdeal.lean ====
variable {F : FTy → Type} [FloatOps F] [Named F]
def κ : String → Option EReal := fun
  | "x_scale" => some (((Real.sqrt 128)⁻¹ * (Real.log 2)⁻¹ : ℝ) : EReal)
  | _ => none
-- ==== MergeRefIdeal.lean ====
abbrev S32768x1024 : Shape := ⟨2, ![32768, 1024]⟩
abbrev S32768x6400 : Shape := ⟨2, ![32768, 6400]⟩
abbrev S32768x512 : Shape := ⟨2, ![32768, 512]⟩
abbrev S4096x1024 : Shape := ⟨2, ![4096, 1024]⟩
abbrev S1x1024 : Shape := ⟨2, ![1, 1024]⟩
abbrev S1x1024x1024 : Shape := ⟨3, ![1, 1024, 1024]⟩
abbrev S1x3x512x1024 : Shape := ⟨4, ![1, 3, 512, 1024]⟩
abbrev S1x1024x4096 : Shape := ⟨3, ![1, 1024, 4096]⟩
abbrev S1x4096x1024 : Shape := ⟨3, ![1, 4096, 1024]⟩
abbrev S1024 : Shape := ⟨1, ![1024]⟩
abbrev S32768x3072 : Shape := ⟨2, ![32768, 3072]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S4096x512 : Shape := ⟨2, ![4096, 512]⟩
abbrev S16x2048x4x128 : Shape := ⟨4, ![16, 2048, 4, 128]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S32768x1x512 : Shape := ⟨3, ![32768, 1, 512]⟩
abbrev S32768x3x512 : Shape := ⟨3, ![32768, 3, 512]⟩
abbrev S3x512x1024 : Shape := ⟨3, ![3, 512, 1024]⟩
abbrev S3x1024x32768 : Shape := ⟨3, ![3, 1024, 32768]⟩
abbrev S32768x3x1024 : Shape := ⟨3, ![32768, 3, 1024]⟩
abbrev S32768 : Shape := ⟨1, ![32768]⟩
abbrev S32768x1 : Shape := ⟨2, ![32768, 1]⟩
abbrev S1024x4096 : Shape := ⟨2, ![1024, 4096]⟩
abbrev S32768x4096 : Shape := ⟨2, ![32768, 4096]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x6400, .bf16⟩
  | .hbm, ⟨2, _⟩ => ⟨S32768x512, .bf16⟩
  | .hbm, ⟨3, _⟩ => ⟨S32768x512, .bf16⟩
  | .hbm, ⟨4, _⟩ => ⟨S4096x1024, .f32⟩
  | .hbm, ⟨5, _⟩ => ⟨S1x1024, .f32⟩
  | .hbm, ⟨6, _⟩ => ⟨S1x1024x1024, .f32⟩
  | .hbm, ⟨7, _⟩ => ⟨S1x3x512x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1024, .f32⟩
  | .hbm, ⟨13, _⟩ => ⟨S32768x6400, .f32⟩
  | .hbm, ⟨14, _⟩ => ⟨S32768x512, .f32⟩
  | .hbm, ⟨15, _⟩ => ⟨S32768x3072, .f32⟩
  | .hbm, ⟨16, _⟩ => ⟨S1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S4096x512, .f32⟩
  | .hbm, ⟨36, _⟩ => ⟨S4096x512, .f32⟩
  | .hbm, ⟨37, _⟩ => ⟨S16x2048x4x128, .f32⟩
  | .hbm, ⟨38, _⟩ => ⟨S16x256x4x128, .f32⟩
  | .hbm, ⟨39, _⟩ => ⟨S16x4x2048x256, .f32⟩
  | .hbm, ⟨40, _⟩ => ⟨S_, .f32⟩
  | .hbm, ⟨41, _⟩ => ⟨S_, .f32⟩
  | .hbm, ⟨42, _⟩ => ⟨S16x4x2048x256, .f32⟩
  | .hbm, ⟨43, _⟩ => ⟨S16x4x2048x256, .f32⟩
  | .hbm, ⟨44, _⟩ => ⟨S_, .f32⟩
  | .hbm, ⟨45, _⟩ => ⟨S16x4x2048, .f32⟩
  | .hbm, ⟨46, _⟩ => ⟨S_, .f32⟩
  | .hbm, ⟨47, _⟩ => ⟨S16x4x2048, .f32⟩
  | .hbm, ⟨48, _⟩ => ⟨S16x4x2048, .f32⟩
  | .hbm, ⟨49, _⟩ => ⟨S16x4x2048x1, .f32⟩
  | .hbm, ⟨50, _⟩ => ⟨S16x4x2048x256, .f32⟩
  | .hbm, ⟨51, _⟩ => ⟨S16x4x2048x256, .f32⟩
  | .hbm, ⟨52, _⟩ => ⟨S16x4x2048x256, .f32⟩
  | .hbm, ⟨53, _⟩ => ⟨S_, .f32⟩
  | .hbm, ⟨54, _⟩ => ⟨S16x4x2048, .f32⟩
  | .hbm, ⟨55, _⟩ => ⟨S16x4x2048x1, .f32⟩
  | .hbm, ⟨56, _⟩ => ⟨S16x4x2048x256, .f32⟩
  | .hbm, ⟨57, _⟩ => ⟨S16x4x2048x256, .f32⟩
  | .hbm, ⟨58, _⟩ => ⟨S16x256x4x128, .f32⟩
  | .hbm, ⟨59, _⟩ => ⟨S16x4x128x2048, .f32⟩
  | .hbm, ⟨60, _⟩ => ⟨S16x2048x4x128, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S32768x1x512, .f32⟩
  | .hbm, ⟨65, _⟩ => ⟨S32768x1x512, .f32⟩
  | .hbm, ⟨66, _⟩ => ⟨S32768x1x512, .f32⟩
  | .hbm, ⟨67, _⟩ => ⟨S32768x3x512, .f32⟩
  | .hbm, ⟨68, _⟩ => ⟨S3x512x1024, .f32⟩
  | .hbm, ⟨69, _⟩ => ⟨S3x1024x32768, .f32⟩
  | .hbm, ⟨70, _⟩ => ⟨S32768x3x1024, .f32⟩
  | .hbm, ⟨71, _⟩ => ⟨S32768x3x1024, .f32⟩
  | .hbm, ⟨72, _⟩ => ⟨S32768x3x1024, .f32⟩
  | .hbm, ⟨73, _⟩ => ⟨S32768x3x1024, .f32⟩
  | .hbm, ⟨74, _⟩ => ⟨S_, .f32⟩
  | .hbm, ⟨75, _⟩ => ⟨S32768x3x1024, .f32⟩
  | .hbm, ⟨76, _⟩ => ⟨S32768x3x1024, .f32⟩
  | .hbm, ⟨77, _⟩ => ⟨S_, .f32⟩
  | .hbm, ⟨78, _⟩ => ⟨S32768x3x1024, .f32⟩
  | .hbm, ⟨79, _⟩ => ⟨S32768x3x1024, .f32⟩
  | .hbm, ⟨80, _⟩ => ⟨S32768x3x1024, .f32⟩
  | .hbm, ⟨81, _⟩ => ⟨S_, .f32⟩
  | .hbm, ⟨82, _⟩ => ⟨S32768x1024, .f32⟩
  | .hbm, ⟨83, _⟩ => ⟨S1024x1024, .f32⟩
  | .hbm, ⟨84, _⟩ => ⟨S32768x1024, .f32⟩
  | .hbm, ⟨85, _⟩ => ⟨S32768x1024, .f32⟩
  | .hbm, ⟨86, _⟩ => ⟨S1024, .f32⟩
  | .hbm, ⟨87, _⟩ => ⟨S32768x1024, .f32⟩
  | .hbm, ⟨88, _⟩ => ⟨S_, .f32⟩
  | .hbm, ⟨89, _⟩ => ⟨S32768, .f32⟩
  | .hbm, ⟨90, _⟩ => ⟨S32768x1, .f32⟩
  | .hbm, ⟨91, _⟩ => ⟨S_, .f32⟩
  | .hbm, ⟨92, _⟩ => ⟨S32768x1, .f32⟩
  | .hbm, ⟨93, _⟩ => ⟨S32768x1, .f32⟩
  | .hbm, ⟨94, _⟩ => ⟨S_, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S1x1024, .f32⟩
  | .hbm, ⟨101, _⟩ => ⟨S32768x1024, .f32⟩
  | .hbm, ⟨102, _⟩ => ⟨S32768x1024, .f32⟩
  | .hbm, ⟨103, _⟩ => ⟨S1024x4096, .f32⟩
  | .hbm, ⟨104, _⟩ => ⟨S32768x4096, .f32⟩
  | .hbm, ⟨105, _⟩ => ⟨S_, .f32⟩
  | .hbm, ⟨106, _⟩ => ⟨S32768x4096, .f32⟩
  | .hbm, ⟨107, _⟩ => ⟨S32768x4096, .f32⟩
  | .hbm, ⟨108, _⟩ => ⟨S32768x4096, .f32⟩
  | .hbm, ⟨109, _⟩ => ⟨S4096x1024, .f32⟩
  | .hbm, ⟨110, _⟩ => ⟨S32768x1024, .f32⟩
  | .hbm, ⟨111, _⟩ => ⟨S32768x1024, .f32⟩
  | .hbm, ⟨112, _⟩ => ⟨S32768x1024, .f32⟩
  | .hbm, ⟨113, _⟩ => ⟨S_, .f32⟩
  | .hbm, ⟨114, _⟩ => ⟨S32768, .f32⟩
  | .hbm, ⟨115, _⟩ => ⟨S32768x1, .f32⟩
  | .hbm, ⟨116, _⟩ => ⟨S_, .f32⟩
  | .hbm, ⟨117, _⟩ => ⟨S32768x1, .f32⟩
  | .hbm, ⟨118, _⟩ => ⟨S32768x1, .f32⟩
  | .hbm, ⟨119, _⟩ => ⟨S_, .f32⟩
  | .hbm, ⟨120, _⟩ => ⟨S32768x1, .f32⟩
  | .hbm, ⟨121, _⟩ => ⟨S32768x1, .f32⟩
  | .hbm, ⟨122, _⟩ => ⟨S32768x1, .f32⟩
  | .hbm, ⟨123, _⟩ => ⟨S32768x1024, .f32⟩
  | .hbm, ⟨124, _⟩ => ⟨S32768x1024, .f32⟩
  | .hbm, ⟨125, _⟩ => ⟨S1x1024, .f32⟩
  | .hbm, ⟨126, _⟩ => ⟨S32768x1024, .f32⟩
  | .hbm, ⟨127, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call0_cst : Ref sig .tc := ⟨.hbm, 105, rfl⟩
abbrev main_call0_v0 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Inproj.lean ====
abbrev S32768x1024 : Shape := ⟨2, ![32768, 1024]⟩
abbrev S1x1024 : Shape := ⟨2, ![1, 1024]⟩
abbrev S1x1024x6416 : Shape := ⟨3, ![1, 1024, 6416]⟩
abbrev S1x64 : Shape := ⟨2, ![1, 64]⟩
abbrev S2048x2x16 : Shape := ⟨3, ![2048, 2, 16]⟩
abbrev S2048x1x16 : Shape := ⟨3, ![2048, 1, 16]⟩
abbrev S2048x16 : Shape := ⟨2, ![2048, 16]⟩
abbrev S2048x128 : Shape := ⟨2, ![2048, 128]⟩
abbrev S1024x6416 : Shape := ⟨2, ![1024, 6416]⟩
abbrev S6416x1024 : Shape := ⟨2, ![6416, 1024]⟩
abbrev S3072x1024 : Shape := ⟨2, ![3072, 1024]⟩
abbrev S2048x1024 : Shape := ⟨2, ![2048, 1024]⟩
abbrev S512x1024 : Shape := ⟨2, ![512, 1024]⟩
abbrev S256x1024 : Shape := ⟨2, ![256, 1024]⟩
abbrev S8x1024 : Shape := ⟨2, ![8, 1024]⟩
abbrev S1024x8 : Shape := ⟨2, ![1024, 8]⟩
abbrev S1024x4 : Shape := ⟨2, ![1024, 4]⟩
abbrev S_ : Shape := ⟨0, ![]⟩
abbrev S1024x0 : Shape := ⟨2, ![1024, 0]⟩
abbrev S1024x112 : Shape := ⟨2, ![1024, 112]⟩
abbrev S1024x128 : Shape := ⟨2, ![1024, 128]⟩
abbrev S128x1024 : Shape := ⟨2, ![128, 1024]⟩
abbrev S6528x1024 : Shape := ⟨2, ![6528, 1024]⟩
abbrev S1024 : Shape := ⟨1, ![1024]⟩
abbrev S64 : Shape := ⟨1, ![64]⟩
abbrev S2x64 : Shape := ⟨2, ![2, 64]⟩
abbrev S128 : Shape := ⟨1, ![128]⟩
abbrev S1x128 : Shape := ⟨2, ![1, 128]⟩
abbrev S32768x6400 : Shape := ⟨2, ![32768, 6400]⟩
abbrev S32768x128 : Shape := ⟨2, ![32768, 128]⟩
abbrev S512x128 : Shape := ⟨2, ![512, 128]⟩
abbrev S512x6400 : Shape := ⟨2, ![512, 6400]⟩
abbrev S512 : Shape := ⟨1, ![512]⟩
abbrev S512x1 : Shape := ⟨2, ![512, 1]⟩
abbrev S512x512 : Shape := ⟨2, ![512, 512]⟩
abbrev S512x256 : Shape := ⟨2, ![512, 256]⟩

abbrev nBuf : Space → Nat
  | .hbm => 54
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6416, .f32⟩
  | .hbm, ⟨3, _⟩ => ⟨S1x64, .f32⟩
  | .hbm, ⟨4, _⟩ => ⟨S1x64, .f32⟩
  | .hbm, ⟨5, _⟩ => ⟨S2048x2x16, .f32⟩
  | .hbm, ⟨6, _⟩ => ⟨S2048x2x16, .f32⟩
  | .hbm, ⟨7, _⟩ => ⟨S2048x1x16, .f32⟩
  | .hbm, ⟨8, _⟩ => ⟨S2048x16, .f32⟩
  | .hbm, ⟨9, _⟩ => ⟨S2048x1x16, .f32⟩
  | .hbm, ⟨10, _⟩ => ⟨S2048x16, .f32⟩
  | .hbm, ⟨11, _⟩ => ⟨S2048x128, .f32⟩
  | .hbm, ⟨12, _⟩ => ⟨S2048x1x16, .f32⟩
  | .hbm, ⟨13, _⟩ => ⟨S2048x16, .f32⟩
  | .hbm, ⟨14, _⟩ => ⟨S2048x1x16, .f32⟩
  | .hbm, ⟨15, _⟩ => ⟨S2048x16, .f32⟩
  | .hbm, ⟨16, _⟩ => ⟨S2048x128, .f32⟩
  | .hbm, ⟨17, _⟩ => ⟨S1024x6416, .f32⟩
  | .hbm, ⟨18, _⟩ => ⟨S6416x1024, .f32⟩
  | .hbm, ⟨19, _⟩ => ⟨S6416x1024, .bf16⟩
  | .hbm, ⟨20, _⟩ => ⟨S3072x1024, .bf16⟩
  | .hbm, ⟨21, _⟩ => ⟨S2048x1024, .bf16⟩
  | .hbm, ⟨22, _⟩ => ⟨S512x1024, .bf16⟩
  | .hbm, ⟨23, _⟩ => ⟨S512x1024, .bf16⟩
  | .hbm, ⟨24, _⟩ => ⟨S256x1024, .bf16⟩
  | .hbm, ⟨25, _⟩ => ⟨S8x1024, .bf16⟩
  | .hbm, ⟨26, _⟩ => ⟨S1024x8, .bf16⟩
  | .hbm, ⟨27, _⟩ => ⟨S8x1024, .bf16⟩
  | .hbm, ⟨28, _⟩ => ⟨S1024x8, .bf16⟩
  | .hbm, ⟨29, _⟩ => ⟨S1024x4, .bf16⟩
  | .hbm, ⟨30, _⟩ => ⟨S1024x4, .bf16⟩
  | .hbm, ⟨31, _⟩ => ⟨S_, .bf16⟩
  | .hbm, ⟨32, _⟩ => ⟨S1024x0, .bf16⟩
  | .hbm, ⟨33, _⟩ => ⟨S1024x4, .bf16⟩
  | .hbm, ⟨34, _⟩ => ⟨S1024x4, .bf16⟩
  | .hbm, ⟨35, _⟩ => ⟨S_, .bf16⟩
  | .hbm, ⟨36, _⟩ => ⟨S1024x112, .bf16⟩
  | .hbm, ⟨37, _⟩ => ⟨S1024x128, .bf16⟩
  | .hbm, ⟨38, _⟩ => ⟨S128x1024, .bf16⟩
  | .hbm, ⟨39, _⟩ => ⟨S6528x1024, .bf16⟩
  | .hbm, ⟨40, _⟩ => ⟨S1024, .f32⟩
  | .hbm, ⟨41, _⟩ => ⟨S1x1024, .f32⟩
  | .hbm, ⟨42, _⟩ => ⟨S64, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S64, .f32⟩
  | .hbm, ⟨48, _⟩ => ⟨S1x64, .f32⟩
  | .hbm, ⟨49, _⟩ => ⟨S2x64, .f32⟩
  | .hbm, ⟨50, _⟩ => ⟨S128, .f32⟩
  | .hbm, ⟨51, _⟩ => ⟨S1x128, .f32⟩
  | .hbm, ⟨52, _⟩ => ⟨S32768x6400, .bf16⟩
  | .hbm, ⟨53, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S6528x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x6400, .bf16⟩
  | .local _ .vmem, ⟨11, _⟩ => ⟨S512x6400, .bf16⟩
  | .local _ .vmem, ⟨12, _⟩ => ⟨S512x128, .f32⟩
  | .local _ .vmem, ⟨13, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43_0 : Ref sig .tc := ⟨.hbm, 52, rfl⟩
abbrev main_v43_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6528x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x6400 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojIdeal.lean ====
variable {F : FTy → Type} [FloatOps F] [Named F]
def κ : String → Option EReal := fun
  | "q_scale" => some ((8⁻¹ * (Real.log 2)⁻¹ : ℝ) : EReal)
  | _ => none
-- ==== InprojRefIdeal.lean ====
abbrev S32768x1024 : Shape := ⟨2, ![32768, 1024]⟩
abbrev S1x1024 : Shape := ⟨2, ![1, 1024]⟩
abbrev S1x1024x6416 : Shape := ⟨3, ![1, 1024, 6416]⟩
abbrev S1x64 : Shape := ⟨2, ![1, 64]⟩
abbrev S2048x2x16 : Shape := ⟨3, ![2048, 2, 16]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x6416 : Shape := ⟨2, ![1024, 6416]⟩
abbrev S32768x6416 : Shape := ⟨2, ![32768, 6416]⟩
abbrev S32768x2048 : Shape := ⟨2, ![32768, 2048]⟩
abbrev S32768x16 : Shape := ⟨2, ![32768, 16]⟩
abbrev S32768x512 : Shape := ⟨2, ![32768, 512]⟩
abbrev S32768x128 : Shape := ⟨2, ![32768, 128]⟩
abbrev S32768x3072 : Shape := ⟨2, ![32768, 3072]⟩
abbrev S16x2048x8x64 : Shape := ⟨4, ![16, 2048, 8, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x8x2x2x16 : Shape := ⟨6, ![16, 2048, 8, 2, 2, 16]⟩
abbrev S16x2048x8x2x1x16 : Shape := ⟨6, ![16, 2048, 8, 2, 1, 16]⟩
abbrev S16x2048x8x2x16 : Shape := ⟨5, ![16, 2048, 8, 2, 16]⟩
abbrev S1x2048x1x2x16 : Shape := ⟨5, ![1, 2048, 1, 2, 16]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x2x2x16 : Shape := ⟨6, ![16, 2048, 2, 2, 2, 16]⟩
abbrev S16x2048x2x2x1x16 : Shape := ⟨6, ![16, 2048, 2, 2, 1, 16]⟩
abbrev S16x2048x2x2x16 : Shape := ⟨5, ![16, 2048, 2, 2, 16]⟩
abbrev S32768x6400 : Shape := ⟨2, ![32768, 6400]⟩
abbrev S32768x112 : Shape := ⟨2, ![32768, 112]⟩

abbrev nBuf : Space → Nat
  | .hbm => 125
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x6416, .f32⟩
  | .hbm, ⟨3, _⟩ => ⟨S1x64, .f32⟩
  | .hbm, ⟨4, _⟩ => ⟨S1x64, .f32⟩
  | .hbm, ⟨5, _⟩ => ⟨S2048x2x16, .f32⟩
  | .hbm, ⟨6, _⟩ => ⟨S2048x2x16, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1024x6416, .f32⟩
  | .hbm, ⟨25, _⟩ => ⟨S32768x6416, .f32⟩
  | .hbm, ⟨26, _⟩ => ⟨S32768x2048, .f32⟩
  | .hbm, ⟨27, _⟩ => ⟨S32768x16, .f32⟩
  | .hbm, ⟨28, _⟩ => ⟨S32768x512, .f32⟩
  | .hbm, ⟨29, _⟩ => ⟨S32768x128, .f32⟩
  | .hbm, ⟨30, _⟩ => ⟨S32768x128, .f32⟩
  | .hbm, ⟨31, _⟩ => ⟨S32768x512, .f32⟩
  | .hbm, ⟨32, _⟩ => ⟨S32768x3072, .f32⟩
  | .hbm, ⟨33, _⟩ => ⟨S16x2048x8x64, .f32⟩
  | .hbm, ⟨34, _⟩ => ⟨S64, .f32⟩
  | .hbm, ⟨35, _⟩ => ⟨S16x2048x8x64, .f32⟩
  | .hbm, ⟨36, _⟩ => ⟨S_, .f32⟩
  | .hbm, ⟨37, _⟩ => ⟨S16x2048x8, .f32⟩
  | .hbm, ⟨38, _⟩ => ⟨S16x2048x8x1, .f32⟩
  | .hbm, ⟨39, _⟩ => ⟨S_, .f32⟩
  | .hbm, ⟨40, _⟩ => ⟨S16x2048x8x1, .f32⟩
  | .hbm, ⟨41, _⟩ => ⟨S16x2048x8x1, .f32⟩
  | .hbm, ⟨42, _⟩ => ⟨S_, .f32⟩
  | .hbm, ⟨43, _⟩ => ⟨S16x2048x8x1, .f32⟩
  | .hbm, ⟨44, _⟩ => ⟨S16x2048x8x1, .f32⟩
  | .hbm, ⟨45, _⟩ => ⟨S16x2048x8x1, .f32⟩
  | .hbm, ⟨46, _⟩ => ⟨S16x2048x8x64, .f32⟩
  | .hbm, ⟨47, _⟩ => ⟨S16x2048x8x64, .f32⟩
  | .hbm, ⟨48, _⟩ => ⟨S1x1x1x64, .f32⟩
  | .hbm, ⟨49, _⟩ => ⟨S16x2048x8x64, .f32⟩
  | .hbm, ⟨50, _⟩ => ⟨S16x2048x8x64, .f32⟩
  | .hbm, ⟨51, _⟩ => ⟨S16x2048x8x2x2x16, .f32⟩
  | .hbm, ⟨52, _⟩ => ⟨S16x2048x8x2x1x16, .f32⟩
  | .hbm, ⟨53, _⟩ => ⟨S16x2048x8x2x16, .f32⟩
  | .hbm, ⟨54, _⟩ => ⟨S16x2048x8x2x1x16, .f32⟩
  | .hbm, ⟨55, _⟩ => ⟨S16x2048x8x2x16, .f32⟩
  | .hbm, ⟨56, _⟩ => ⟨S1x2048x1x2x16, .f32⟩
  | .hbm, ⟨57, _⟩ => ⟨S1x2048x1x2x16, .f32⟩
  | .hbm, ⟨58, _⟩ => ⟨S16x2048x8x2x16, .f32⟩
  | .hbm, ⟨59, _⟩ => ⟨S16x2048x8x2x16, .f32⟩
  | .hbm, ⟨60, _⟩ => ⟨S16x2048x8x2x16, .f32⟩
  | .hbm, ⟨61, _⟩ => ⟨S16x2048x8x2x16, .f32⟩
  | .hbm, ⟨62, _⟩ => ⟨S16x2048x8x2x16, .f32⟩
  | .hbm, ⟨63, _⟩ => ⟨S16x2048x8x2x16, .f32⟩
  | .hbm, ⟨64, _⟩ => ⟨S16x2048x8x2x16, .f32⟩
  | .hbm, ⟨65, _⟩ => ⟨S16x2048x8x2x16, .f32⟩
  | .hbm, ⟨66, _⟩ => ⟨S16x2048x8x2x16, .f32⟩
  | .hbm, ⟨67, _⟩ => ⟨S16x2048x8x2x16, .f32⟩
  | .hbm, ⟨68, _⟩ => ⟨S16x2048x8x2x1x16, .f32⟩
  | .hbm, ⟨69, _⟩ => ⟨S16x2048x8x2x1x16, .f32⟩
  | .hbm, ⟨70, _⟩ => ⟨S16x2048x8x2x2x16, .f32⟩
  | .hbm, ⟨71, _⟩ => ⟨S16x2048x8x64, .f32⟩
  | .hbm, ⟨72, _⟩ => ⟨S16x2048x2x64, .f32⟩
  | .hbm, ⟨73, _⟩ => ⟨S64, .f32⟩
  | .hbm, ⟨74, _⟩ => ⟨S16x2048x2x64, .f32⟩
  | .hbm, ⟨75, _⟩ => ⟨S_, .f32⟩
  | .hbm, ⟨76, _⟩ => ⟨S16x2048x2, .f32⟩
  | .hbm, ⟨77, _⟩ => ⟨S16x2048x2x1, .f32⟩
  | .hbm, ⟨78, _⟩ => ⟨S_, .f32⟩
  | .hbm, ⟨79, _⟩ => ⟨S16x2048x2x1, .f32⟩
  | .hbm, ⟨80, _⟩ => ⟨S16x2048x2x1, .f32⟩
  | .hbm, ⟨81, _⟩ => ⟨S_, .f32⟩
  | .hbm, ⟨82, _⟩ => ⟨S16x2048x2x1, .f32⟩
  | .hbm, ⟨83, _⟩ => ⟨S16x2048x2x1, .f32⟩
  | .hbm, ⟨84, _⟩ => ⟨S16x2048x2x1, .f32⟩
  | .hbm, ⟨85, _⟩ => ⟨S16x2048x2x64, .f32⟩
  | .hbm, ⟨86, _⟩ => ⟨S16x2048x2x64, .f32⟩
  | .hbm, ⟨87, _⟩ => ⟨S1x1x1x64, .f32⟩
  | .hbm, ⟨88, _⟩ => ⟨S16x2048x2x64, .f32⟩
  | .hbm, ⟨89, _⟩ => ⟨S16x2048x2x64, .f32⟩
  | .hbm, ⟨90, _⟩ => ⟨S16x2048x2x2x2x16, .f32⟩
  | .hbm, ⟨91, _⟩ => ⟨S16x2048x2x2x1x16, .f32⟩
  | .hbm, ⟨92, _⟩ => ⟨S16x2048x2x2x16, .f32⟩
  | .hbm, ⟨93, _⟩ => ⟨S16x2048x2x2x1x16, .f32⟩
  | .hbm, ⟨94, _⟩ => ⟨S16x2048x2x2x16, .f32⟩
  | .hbm, ⟨95, _⟩ => ⟨S1x2048x1x2x16, .f32⟩
  | .hbm, ⟨96, _⟩ => ⟨S1x2048x1x2x16, .f32⟩
  | .hbm, ⟨97, _⟩ => ⟨S16x2048x2x2x16, .f32⟩
  | .hbm, ⟨98, _⟩ => ⟨S16x2048x2x2x16, .f32⟩
  | .hbm, ⟨99, _⟩ => ⟨S16x2048x2x2x16, .f32⟩
  | .hbm, ⟨100, _⟩ => ⟨S16x2048x2x2x16, .f32⟩
  | .hbm, ⟨101, _⟩ => ⟨S16x2048x2x2x16, .f32⟩
  | .hbm, ⟨102, _⟩ => ⟨S16x2048x2x2x16, .f32⟩
  | .hbm, ⟨103, _⟩ => ⟨S16x2048x2x2x16, .f32⟩
  | .hbm, ⟨104, _⟩ => ⟨S16x2048x2x2x16, .f32⟩
  | .hbm, ⟨105, _⟩ => ⟨S16x2048x2x2x16, .f32⟩
  | .hbm, ⟨106, _⟩ => ⟨S16x2048x2x2x16, .f32⟩
  | .hbm, ⟨107, _⟩ => ⟨S16x2048x2x2x1x16, .f32⟩
  | .hbm, ⟨108, _⟩ => ⟨S16x2048x2x2x1x16, .f32⟩
  | .hbm, ⟨109, _⟩ => ⟨S16x2048x2x2x2x16, .f32⟩
  | .hbm, ⟨110, _⟩ => ⟨S16x2048x2x64, .f32⟩
  | .hbm, ⟨111, _⟩ => ⟨S_, .f32⟩
  | .hbm, ⟨112, _⟩ => ⟨S16x2048x8x64, .f32⟩
  | .hbm, ⟨113, _⟩ => ⟨S16x2048x8x64, .f32⟩
  | .hbm, ⟨114, _⟩ => ⟨S_, .f32⟩
  | .hbm, ⟨115, _⟩ => ⟨S_, .f32⟩
  | .hbm, ⟨116, _⟩ => ⟨S16x2048x8x64, .f32⟩
  | .hbm, ⟨117, _⟩ => ⟨S16x2048x8x64, .f32⟩
  | .hbm, ⟨118, _⟩ => ⟨S32768x512, .f32⟩
  | .hbm, ⟨119, _⟩ => ⟨S32768x128, .f32⟩
  | .hbm, ⟨120, _⟩ => ⟨S32768x6400, .f32⟩
  | .hbm, ⟨121, _⟩ => ⟨S_, .f32⟩
  | .hbm, ⟨122, _⟩ => ⟨S32768x112, .f32⟩
  | .hbm, ⟨123, _⟩ => ⟨S32768x128, .f32⟩
  | .hbm, ⟨124, _⟩ => ⟨S32768x6400, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_8 : Ref sig .tc := ⟨.hbm, 111, rfl⟩
abbrev main_v95 : Ref sig .tc := ⟨.hbm, 112, rfl⟩
abbrev main_v96 : Ref sig .tc := ⟨.hbm, 113, rfl⟩
abbrev main_cst_9 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩

abbrev nD : Nat := 1
abbrev τ : Topo := Topo.v7x

variable {F : FTy → Type} [FloatOps F]
-- ==== Proof.Softmax.lean ====
/-
  The softmax-weighted mean, read two ways over the extended reals.

  `softmax_mean`: a kernel weighs the values by powers of two of the shifted scores and divides once at the end; the
  reference weighs them by exponentials of the scores times the natural logarithm of two, each weight divided first.
  For real scores the two agree, whatever the values are.
-/
module

public import Idealize.ShloMosaic.Lib.Pointwise

@[expose] public section

noncomputable section

namespace Cert.Softmax

open Idealize.ShloMosaic

/-- A choice by a condition that is a decided bit. -/
theorem select_of_iff {α : Type} {c : BitVec 1} {p : Prop} [Decidable p] (h : c = 1#1 ↔ p) (a b : α) :
    Scalar.select c a b = if p then a else b := by
  rw [Scalar.select_def]
  by_cases hp : p
  · rw [if_pos hp]; exact if_pos (h.mpr hp)
  · rw [if_neg hp]; exact if_neg fun hc => hp (h.mp hc)

/-- The pattern a maximum starts from is minus infinity. -/
theorem ofBits_bot : Ideal.ofBits .f32 0xFF800000#32 = (⊥ : EReal) := by
  simp [Ideal.ofBits, Ideal.ieee]

/-- The greatest of finitely many extended reals, as a reduction from minus infinity states it. -/
abbrev top {n : ℕ} (s : Fin n → EReal) : EReal := Finset.univ.fold max ⊥ s

/-- A sum of reals, each read as an extended real, is the real sum. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real factor that is not negative moves out of a sum of extended reals on the right. -/
theorem sum_mul_coe {ι : Type*} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih,
      EReal.right_distrib_of_nonneg_of_ne_top (EReal.coe_nonneg.mpr hc) (EReal.coe_ne_top c)]

/-- The greatest of finitely many reals is one of them, hence real, and bounds the others. -/
theorem exists_top {n : ℕ} (hn : 0 < n) (r : Fin n → ℝ) :
    ∃ i, top (fun j => (r j : EReal)) = r i ∧ ∀ j, r j ≤ r i := by
  obtain ⟨i, -, hi⟩ := Finset.exists_max_image (Finset.univ : Finset (Fin n)) r ⟨⟨0, hn⟩, Finset.mem_univ _⟩
  refine ⟨i, le_antisymm ?_ ?_, fun j => hi j (Finset.mem_univ j)⟩
  · exact (Finset.fold_max_le _).mpr ⟨bot_le, fun j _ => EReal.coe_le_coe_iff.mpr (hi j (Finset.mem_univ j))⟩
  · exact (Finset.le_fold_max _).mpr (Or.inr ⟨i, Finset.mem_univ i, le_rfl⟩)

/-- THE SOFTMAX-WEIGHTED MEAN, TWO WAYS: with real scores `r`, the values weighed by `2 ^ (r - max r)` and divided by the
    sum of the weights are the values weighed by the softmax of the scores times the logarithm of two. -/
theorem softmax_mean {n : ℕ} (hn : 0 < n) (s t v : Fin n → EReal) (r : Fin n → ℝ) (hs : ∀ j, s j = r j)
    (ht : ∀ j, t j = ((r j * Real.log 2 : ℝ) : EReal)) :
    Ideal.div (∑ j, Ideal.exp2 (s j - top s) * v j) (∑ j, Ideal.exp2 (s j - top s))
      = ∑ j, v j * Ideal.div (Ideal.exp (t j - top t)) (∑ k, Ideal.exp (t k - top t)) := by
  obtain rfl : s = fun j => (r j : EReal) := funext hs
  obtain rfl : t = fun j => ((r j * Real.log 2 : ℝ) : EReal) := funext ht
  obtain ⟨i, hi, hle⟩ := exists_top hn r
  obtain ⟨i', hi', hle'⟩ := exists_top hn (fun j => r j * Real.log 2)
  have h2 : (0 : ℝ) < Real.log 2 := Real.log_pos (by norm_num)
  have hii : r i' * Real.log 2 = r i * Real.log 2 :=
    le_antisymm (mul_le_mul_of_nonneg_right (hle i') h2.le) (hle' i)
  have e1 : ∀ j, Ideal.exp2 ((r j : EReal) - top fun j => (r j : EReal)) = ((Real.exp (Real.log 2 * (r j - r i)) : ℝ) : EReal) := by
    intro j
    rw [hi, ← EReal.coe_sub, Ideal.exp2_coe]
    exact congrArg _ (Real.rpow_def_of_pos (by norm_num) _)
  have e2 : ∀ j, Ideal.exp (((r j * Real.log 2 : ℝ) : EReal) - top fun j => ((r j * Real.log 2 : ℝ) : EReal))
      = ((Real.exp (Real.log 2 * (r j - r i)) : ℝ) : EReal) := by
    intro j
    rw [hi', hii, ← EReal.coe_sub, Ideal.exp_coe]
    congr 2; ring
  simp only [e1, e2]
  rw [← coe_sum]
  have hd : 0 < ∑ j, Real.exp (Real.log 2 * (r j - r i)) :=
    Finset.sum_pos (fun j _ => Real.exp_pos _) ⟨⟨0, hn⟩, Finset.mem_univ _⟩
  generalize (∑ j, Real.exp (Real.log 2 * (r j - r i))) = d at hd
  have hdiv : ∀ x : EReal, Ideal.div x (d : EReal) = x * ((d⁻¹ : ℝ) : EReal) := by
    intro x
    unfold Ideal.div
    rw [if_neg (by exact_mod_cast hd.ne')]
    rw [← EReal.coe_inv]
  simp only [hdiv]
  rw [sum_mul_coe _ _ _ (inv_nonneg.mpr hd.le)]
  refine Finset.sum_congr rfl fun j _ => ?_
  rw [mul_comm (v j), mul_assoc, mul_assoc, mul_comm (v j)]

/-- A sum of products of reals is real. -/
theorem exists_sum_mul {n : ℕ} (a b : Fin n → EReal) (ha : ∀ k, ∃ x : ℝ, a k = x) (hb : ∀ k, ∃ x : ℝ, b k = x) :
    ∃ x : ℝ, ∑ k, a k * b k = x := by
  choose x hx using ha
  choose y hy using hb
  refine ⟨∑ k, x k * y k, ?_⟩
  rw [coe_sum]
  exact Finset.sum_congr rfl fun k _ => by rw [hx, hy, EReal.coe_mul]

end Cert.Softmax

end
-- ==== Proof.GqaPay.lean ====
/-
  The attention kernel's stored values, read at an index over the extended reals: the four scratch blocks (the keys and
  the values of one head pair, each laid in one half of the lanes with zeros or a ones lane in the other), and one head's
  output column as a softmax-weighted mean.
-/
module

public import proofs.«01_k».proof.Proof.Softmax
public import proofs.«01_k».proof.Proof.Gen.GqaIdeal.Skeleton

@[expose] public section

set_option maxRecDepth 16384

noncomputable section

namespace Cert.GqaIdeal.Hand

open Cert.GqaIdeal Cert.GqaIdeal.Gen Idealize.ShloMosaic Cert.Softmax

/-- The lane numbers the kernel compares against. -/
abbrev lanes : IVec S1x128 32 := iota .tc S1x128 32 [1] iota_S1x128_d1_w32

/-- The comparison of a lane number with 64 picks the low half. -/
theorem lane_lt : ∀ l : Fin 128, IntOp.cmpi .slt (BitVec.ofNat 32 l.val) 64#32 = 1#1 ↔ l.val < 64 := by decide +kernel

/-- The comparison of a lane number with 64 for equality. -/
theorem lane_eq64 : ∀ l : Fin 128, IntOp.cmpi .eq (BitVec.ofNat 32 l.val) 64#32 = 1#1 ↔ l.val = 64 := by decide +kernel

/-- The comparison of a lane number with 0 for equality. -/
theorem lane_eq0 : ∀ l : Fin 128, IntOp.cmpi .eq (BitVec.ofNat 32 l.val) 0#32 = 1#1 ↔ l.val = 0 := by decide +kernel

/-- The mask of the group's lanes: those of its half. -/
theorem mask (g : Fin 2) (l : Fin 128) :
    IntOp.cmpi .eq (BitVec.setWidth 32 (IntOp.cmpi .sge (BitVec.ofNat 32 l.val) 64#32)) (BitVec.ofNat 32 g.val) = 1#1
      ↔ l.val / 64 = g.val :=
  (by decide +kernel : ∀ (g : Fin 2) (l : Fin 128),
    IntOp.cmpi .eq (BitVec.setWidth 32 (IntOp.cmpi .sge (BitVec.ofNat 32 l.val) 64#32)) (BitVec.ofNat 32 g.val) = 1#1
      ↔ l.val / 64 = g.val) g l

/-- The mask of the group's lanes, of a lane turned by half the register. -/
theorem mask_rot (g : Fin 2) (l : Fin 128) :
    IntOp.cmpi .eq (BitVec.setWidth 32 (IntOp.cmpi .sge (BitVec.ofNat 32 ((l.val + 128 - 64) % 128)) 64#32)) (BitVec.ofNat 32 g.val) = 1#1
      ↔ 1 - l.val / 64 = g.val :=
  (by decide +kernel : ∀ (g : Fin 2) (l : Fin 128),
    IntOp.cmpi .eq (BitVec.setWidth 32 (IntOp.cmpi .sge (BitVec.ofNat 32 ((l.val + 128 - 64) % 128)) 64#32)) (BitVec.ofNat 32 g.val) = 1#1
      ↔ 1 - l.val / 64 = g.val) g l

/-- The test of the group number against zero. -/
theorem grp (g : Fin 2) : Scalar.cmpi .eq (BitVec.ofNat 32 g.val) 0#32 = 1#1 ↔ g.val = 0 :=
  (by decide +kernel : ∀ g : Fin 2, Scalar.cmpi .eq (BitVec.ofNat 32 g.val) 0#32 = 1#1 ↔ g.val = 0) g

/-- The key scratch of the low half: lane `l < 64` holds the group's key coordinate `l`, the other lanes zero. -/
theorem klo_apply (g : Fin 2) (x : Vec Ideal S2048x128 .bf16) (s : Fin 2048) (l : Fin 128) :
    k0_pay6 (F := Ideal) (BitVec.ofNat 32 g.val) lanes x (ix2 s l)
      = if l.val < 64 then x (ix2 s ⟨g.val * 64 + l.val % 64, by omega⟩) else 0 := by
  pointwise [k0_pay6, k0_pay5, k0_pay4, k0_pay3]
  rw [select_of_iff (grp g), select_of_iff (mask g l), select_of_iff (mask_rot g l)]
  have hg := g.isLt
  split_ifs <;> first | rfl | omega | (congr 2; apply Fin.ext; dsimp only; omega)

/-- The key scratch of the high half: lane `l ≥ 64` holds the group's key coordinate `l - 64`, the other lanes zero. -/
theorem khi_apply (g : Fin 2) (x : Vec Ideal S2048x128 .bf16) (s : Fin 2048) (l : Fin 128) :
    k0_pay7 (F := Ideal) (BitVec.ofNat 32 g.val) lanes x (ix2 s l)
      = if l.val < 64 then 0 else x (ix2 s ⟨g.val * 64 + l.val % 64, by omega⟩) := by
  pointwise [k0_pay7, k0_pay5, k0_pay4, k0_pay3]
  rw [select_of_iff (grp g), select_of_iff (mask g l), select_of_iff (mask_rot g l)]
  have hg := g.isLt
  split_ifs <;> first | rfl | omega | (congr 2; apply Fin.ext; dsimp only; omega)

/-- The value scratch of the low half: lane `l < 64` holds the group's value coordinate `l`, lane 64 one, the rest zero. -/
theorem vlo_apply (g : Fin 2) (x : Vec Ideal S2048x128 .bf16) (s : Fin 2048) (l : Fin 128) :
    k0_pay14 (F := Ideal) (k0_pay11 (BitVec.ofNat 32 g.val) lanes x) (ix2 s l)
      = if l.val = 64 then 1 else if l.val < 64 then x (ix2 s ⟨g.val * 64 + l.val % 64, by omega⟩) else 0 := by
  pointwise [k0_pay14, k0_pay11, k0_pay9, k0_pay8, k0_pay3]
  rw [select_of_iff (lane_eq64 l), select_of_iff (grp g), select_of_iff (mask g l), select_of_iff (mask_rot g l)]
  have hg := g.isLt
  split_ifs <;> first | rfl | omega | (congr 2; apply Fin.ext; dsimp only; omega)

/-- The value scratch of the high half: lane `l ≥ 64` holds the group's value coordinate `l - 64`, lane 0 one, the rest zero. -/
theorem vhi_apply (g : Fin 2) (x : Vec Ideal S2048x128 .bf16) (s : Fin 2048) (l : Fin 128) :
    k0_pay15 (F := Ideal) (k0_pay10 (BitVec.ofNat 32 g.val) lanes x) (k0_pay12 lanes) (Scalar.ofBits .f32 0x3F800000#32) (ix2 s l)
      = if l.val = 0 then 1 else if l.val < 64 then 0 else x (ix2 s ⟨g.val * 64 + l.val % 64, by omega⟩) := by
  pointwise [k0_pay15, k0_pay10, k0_pay12, k0_pay9, k0_pay8, k0_pay3]
  rw [select_of_iff (lane_eq0 l), select_of_iff (grp g), select_of_iff (mask g l), select_of_iff (mask_rot g l)]
  have hg := g.isLt
  split_ifs <;> first | rfl | omega | (congr 2; apply Fin.ext; dsimp only; omega)

/-- One head's output column `l` of a row: the softmax-weighted mean a unit of the kernel computes, from the row's 128
    query lanes, the 2048 key rows, the weights' values and the denominators' values. -/
def unit (q : Fin 128 → EReal) (k : Fin 2048 → Fin 128 → EReal) (v w : Fin 2048 → EReal) : EReal :=
  Ideal.div (∑ j, Ideal.exp2 ((∑ l, q l * k j l) - top fun j => ∑ l, q l * k j l) * v j)
    (∑ j, Ideal.exp2 ((∑ l, q l * k j l) - top fun j => ∑ l, q l * k j l) * w j)

/-- The first 128 output lanes, read at an index. -/
theorem pay1_apply (q : Vec Ideal S512x128 .bf16) (klo khi vlo vhi : Vec Ideal S2048x128 .bf16) (r : Fin 512) (l : Fin 128) :
    k0_pay1 (F := Ideal) k0_pay13 (k0_pay17 q klo) (k0_pay18 q khi) vlo vhi (ix2 r l)
      = if l.val < 64 then unit (fun l => q (ix2 r l)) (fun j l => klo (ix2 j l)) (fun j => vlo (ix2 j l)) (fun j => vlo (ix2 j 64))
        else unit (fun l => q (ix2 r l)) (fun j l => khi (ix2 j l)) (fun j => vhi (ix2 j l)) (fun j => vhi (ix2 j 0)) := by
  unfold unit
  pointwise [k0_pay1, k0_pay13, k0_pay17, k0_pay18]
  rw [select_of_iff (lane_lt l), ofBits_bot]
  rfl

/-- The other 128 output lanes, read at an index. -/
theorem pay2_apply (q : Vec Ideal S512x128 .bf16) (klo khi vlo vhi : Vec Ideal S2048x128 .bf16) (r : Fin 512) (l : Fin 128) :
    k0_pay2 (F := Ideal) k0_pay13 (k0_pay16 q khi) (k0_pay19 q klo) vlo vhi (ix2 r l)
      = if l.val < 64 then unit (fun l => q (ix2 r l)) (fun j l => klo (ix2 j l)) (fun j => vlo (ix2 j l)) (fun j => vlo (ix2 j 64))
        else unit (fun l => q (ix2 r l)) (fun j l => khi (ix2 j l)) (fun j => vhi (ix2 j l)) (fun j => vhi (ix2 j 0)) := by
  unfold unit
  pointwise [k0_pay2, k0_pay13, k0_pay16, k0_pay19]
  rw [select_of_iff (lane_lt l), ofBits_bot]
  rfl

/-- A sum over 128 lanes is the sum over the low 64 and the sum over the high 64. -/
theorem sum_halves (f : Fin 128 → EReal) :
    ∑ l, f l = (∑ d : Fin 64, f ⟨d.val, by omega⟩) + ∑ d : Fin 64, f ⟨64 + d.val, by omega⟩ :=
  Fin.sum_univ_add (a := 64) (b := 64) f

/-- ONE HEAD: the softmax-weighted mean of the values `v` under the scores of the query `q` with the keys `k`. -/
def head (q : Fin 64 → EReal) (k : Fin 2048 → Fin 64 → EReal) (v : Fin 2048 → EReal) : EReal :=
  Ideal.div (∑ j, Ideal.exp2 ((∑ d, q d * k j d) - top fun j => ∑ d, q d * k j d) * v j)
    (∑ j, Ideal.exp2 ((∑ d, q d * k j d) - top fun j => ∑ d, q d * k j d))

/-- A unit whose keys are in the low lanes, zero in the high ones, and whose denominators weigh ones is a head. -/
theorem unit_lo (q : Fin 128 → EReal) (k : Fin 2048 → Fin 64 → EReal) (kk : Fin 2048 → Fin 128 → EReal) (v w : Fin 2048 → EReal)
    (hk : ∀ j l, kk j l = if l.val < 64 then k j ⟨l.val % 64, by omega⟩ else 0) (hw : ∀ j, w j = 1) :
    unit q kk v w = head (fun d => q ⟨d.val, by omega⟩) k v := by
  have e : ∀ j, ∑ l, q l * kk j l = ∑ d : Fin 64, q ⟨d.val, by omega⟩ * k j d := by
    intro j
    rw [sum_halves]
    have h1 : ∀ d : Fin 64, kk j ⟨d.val, by omega⟩ = k j d := fun d => by
      rw [hk, if_pos (show d.val < 64 from d.isLt)]; congr 1; apply Fin.ext; dsimp only; omega
    have h2 : ∀ d : Fin 64, kk j ⟨64 + d.val, by omega⟩ = 0 := fun d => by
      rw [hk, if_neg (show ¬64 + d.val < 64 by omega)]
    simp only [h1, h2, mul_zero, Finset.sum_const_zero, add_zero]
  unfold unit head
  simp only [e, hw, mul_one]

/-- A unit whose keys are in the high lanes, zero in the low ones, and whose denominators weigh ones is a head. -/
theorem unit_hi (q : Fin 128 → EReal) (k : Fin 2048 → Fin 64 → EReal) (kk : Fin 2048 → Fin 128 → EReal) (v w : Fin 2048 → EReal)
    (hk : ∀ j l, kk j l = if l.val < 64 then 0 else k j ⟨l.val % 64, by omega⟩) (hw : ∀ j, w j = 1) :
    unit q kk v w = head (fun d => q ⟨64 + d.val, by omega⟩) k v := by
  have e : ∀ j, ∑ l, q l * kk j l = ∑ d : Fin 64, q ⟨64 + d.val, by omega⟩ * k j d := by
    intro j
    rw [sum_halves]
    have h1 : ∀ d : Fin 64, kk j ⟨d.val, by omega⟩ = 0 := fun d => by
      rw [hk, if_pos (show d.val < 64 from d.isLt)]
    have h2 : ∀ d : Fin 64, kk j ⟨64 + d.val, by omega⟩ = k j d := fun d => by
      rw [hk, if_neg (show ¬64 + d.val < 64 by omega)]; congr 1; apply Fin.ext; dsimp only; omega
    simp only [h1, h2, mul_zero, Finset.sum_const_zero, zero_add]
  unfold unit head
  simp only [e, hw, mul_one]

end Cert.GqaIdeal.Hand

end
-- ==== Proof.GqaBlock.lean ====
/-
  The attention kernel's run, read: what every grid point leaves in the scratch blocks and in the output's block, as
  functions of the point's input blocks; and the result array, one head of attention per index.
-/
module

public import proofs.«01_k».proof.Proof.GqaPay
public import proofs.«01_k».proof.Proof.Gen.GqaIdeal.Value
public import Idealize.ShloMosaic.Lib.Tactic
public import Idealize.ShloMosaic.Lib.Pipeline.ValueKit.Tiles

@[expose] public section

set_option maxRecDepth 16384

noncomputable section

namespace Cert.GqaIdeal.Hand

open Cert.GqaIdeal Cert.GqaIdeal.Gen Idealize.ShloMosaic Idealize.ShloMosaic.TcCoe Idealize.SL.Sem Cert.Softmax

/-- The block of a rank-two array at zero offsets. -/
theorem hz : (![0, 0] : Fin 2 → Nat) = fun _ => 0 := funext fun a => by fin_cases a <;> rfl

/-- The low half's key scratch, of group `g` and a key block. -/
def KLo (g : ℕ) (x : Vec Ideal S2048x128 .bf16) : Vec Ideal S2048x128 .bf16 := k0_pay6 (F := Ideal) (BitVec.ofNat 32 g) lanes x

/-- The high half's key scratch. -/
def KHi (g : ℕ) (x : Vec Ideal S2048x128 .bf16) : Vec Ideal S2048x128 .bf16 := k0_pay7 (F := Ideal) (BitVec.ofNat 32 g) lanes x

/-- The low half's value scratch. -/
def VLo (g : ℕ) (x : Vec Ideal S2048x128 .bf16) : Vec Ideal S2048x128 .bf16 := k0_pay14 (F := Ideal) (k0_pay11 (BitVec.ofNat 32 g) lanes x)

/-- The high half's value scratch. -/
def VHi (g : ℕ) (x : Vec Ideal S2048x128 .bf16) : Vec Ideal S2048x128 .bf16 :=
  k0_pay15 (F := Ideal) (k0_pay10 (BitVec.ofNat 32 g) lanes x) (k0_pay12 lanes) (Scalar.ofBits .f32 0x3F800000#32)

/-- The output block of a query block and the four scratch blocks: two stores, one per 128 lanes. -/
def block (q : Vec Ideal S512x256 .bf16) (klo khi vlo vhi : Vec Ideal S2048x128 .bf16) : Vec Ideal S512x256 .bf16 :=
  View.canon (Val := Elt Ideal) (e := .bf16) [⟨Rect.unit (s := S512x256) ![0, 128] ![512, 128] inb_S512x256_S512x128_0_128,
      k0_pay2 (F := Ideal) k0_pay13 (k0_pay16 (View.ld q (Rect.unit (s := S512x256) ![0, 128] ![512, 128] inb_S512x256_S512x128_0_128)) khi)
        (k0_pay19 (View.ld q (Rect.unit (s := S512x256) ![0, 128] ![512, 128] inb_S512x256_S512x128_0_128)) klo) vlo vhi⟩,
    ⟨Rect.unit (s := S512x256) ![0, 0] ![512, 128] inb_S512x256_S512x128_0_0,
      k0_pay1 (F := Ideal) k0_pay13 (k0_pay17 (View.ld q (Rect.unit (s := S512x256) ![0, 0] ![512, 128] inb_S512x256_S512x128_0_0)) klo)
        (k0_pay18 (View.ld q (Rect.unit (s := S512x256) ![0, 0] ![512, 128] inb_S512x256_S512x128_0_0)) khi) vlo vhi⟩]

section Cases
variable (c : Dev nD) (i : grid0.Coords) (arg3 : Memref sig .tc .vmem S512x256 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S512x256 .bf16) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S2048x128 .bf16) (harg10 : arg10.IsWhole)
  (x0 : Vec Ideal S512x256 .bf16) (x1 x2 : Vec Ideal S2048x128 .bf16)

/-- At a point that fills the scratch, the output block is that of the filled scratch. -/
theorem out_A (hc0 : cond0_0 i) :
    out0_A_3 c i arg3 harg3 arg4 harg4 arg5 harg5 arg6 harg6 arg7 harg7 arg8 harg8 arg9 harg9 arg10 harg10 hc0 x0 x1 x2
      = block x0 (KLo (i 1) x1) (KHi (i 1) x1) (VLo (i 1) x2) (VHi (i 1) x2) := by
  unfold out0_A_3
  rw [View.read_writes_eq_canon _ _ _ (cover0_A_3 c i arg3 harg3 arg4 harg4 arg5 harg5 arg6 harg6 arg7 harg7 arg8 harg8 arg9 harg9 arg10 harg10 hc0 x0 x1 x2)]
  unfold kernelRun0_A
  dsimp only
  sl_unfold_words
  simp only [View.readAt_eq_ld, harg3.read_unread, harg4.read_unread, harg5.read_unread, View.ld_unit_zero (S := S2048x128) hz, View.readCov_unit_zero (S := S2048x128) _ hz]
  rfl

/-- At any other point, it is that of the scratch the point before left. -/
theorem out_B (hc0 : ¬cond0_0 i) (klo khi vlo vhi : Vec Ideal S2048x128 .bf16) :
    out0_B_3 c i arg3 harg3 arg4 harg4 arg5 harg5 arg6 harg6 arg7 harg7 arg8 harg8 arg9 harg9 arg10 harg10 hc0 x0 x1 x2 klo khi vlo vhi
      = block x0 klo khi vlo vhi := by
  unfold out0_B_3
  rw [View.read_writes_eq_canon _ _ _ (cover0_B_3 c i arg3 harg3 arg4 harg4 arg5 harg5 arg6 harg6 arg7 harg7 arg8 harg8 arg9 harg9 arg10 harg10 hc0 x0 x1 x2 klo khi vlo vhi)]
  unfold kernelRun0_B
  dsimp only
  sl_unfold_words
  simp only [View.readAt_eq_ld, harg3.read_unread, harg4.read_unread, harg5.read_unread, harg7.read_unread, harg8.read_unread, harg9.read_unread, harg10.read_unread, View.ld_unit_zero (S := S2048x128) hz]
  rfl

/-- A point that fills the scratch leaves the low half's keys. -/
theorem sc_A_0 (hc0 : cond0_0 i) :
    sout0_A_0 c i arg3 harg3 arg4 harg4 arg5 harg5 arg6 harg6 arg7 harg7 arg8 harg8 arg9 harg9 arg10 harg10 hc0 x0 x1 x2 = KLo (i 1) x1 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2)]
  unfold kernelRun0_A
  dsimp only
  sl_unfold_words
  rw [View.canon_unit_zero hz]
  simp only [View.readAt_eq_ld, harg4.read_unread, harg5.read_unread, View.ld_unit_zero (S := S2048x128) hz]
  rfl

/-- … the high half's keys. -/
theorem sc_A_1 (hc0 : cond0_0 i) :
    sout0_A_1 c i arg3 harg3 arg4 harg4 arg5 harg5 arg6 harg6 arg7 harg7 arg8 harg8 arg9 harg9 arg10 harg10 hc0 x0 x1 x2 = KHi (i 1) x1 := by
  unfold sout0_A_1
  rw [View.read_writes_eq_canon _ _ _ (scover0_A_1 c i arg3 harg3 arg4 harg4 arg5 harg5 arg6 harg6 arg7 harg7 arg8 harg8 arg9 harg9 arg10 harg10 hc0 x0 x1 x2)]
  unfold kernelRun0_A
  dsimp only
  sl_unfold_words
  rw [View.canon_unit_zero hz]
  simp only [View.readAt_eq_ld, harg4.read_unread, harg5.read_unread, View.ld_unit_zero (S := S2048x128) hz]
  rfl

/-- … the low half's values. -/
theorem sc_A_2 (hc0 : cond0_0 i) :
    sout0_A_2 c i arg3 harg3 arg4 harg4 arg5 harg5 arg6 harg6 arg7 harg7 arg8 harg8 arg9 harg9 arg10 harg10 hc0 x0 x1 x2 = VLo (i 1) x2 := by
  unfold sout0_A_2
  rw [View.read_writes_eq_canon _ _ _ (scover0_A_2 c i arg3 harg3 arg4 harg4 arg5 harg5 arg6 harg6 arg7 harg7 arg8 harg8 arg9 harg9 arg10 harg10 hc0 x0 x1 x2)]
  unfold kernelRun0_A
  dsimp only
  sl_unfold_words
  rw [View.canon_unit_zero hz]
  simp only [View.readAt_eq_ld, harg4.read_unread, harg5.read_unread, View.ld_unit_zero (S := S2048x128) hz]
  rfl

/-- … and the high half's values. -/
theorem sc_A_3 (hc0 : cond0_0 i) :
    sout0_A_3 c i arg3 harg3 arg4 harg4 arg5 harg5 arg6 harg6 arg7 harg7 arg8 harg8 arg9 harg9 arg10 harg10 hc0 x0 x1 x2 = VHi (i 1) x2 := by
  unfold sout0_A_3
  rw [View.read_writes_eq_canon _ _ _ (scover0_A_3 c i arg3 harg3 arg4 harg4 arg5 harg5 arg6 harg6 arg7 harg7 arg8 harg8 arg9 harg9 arg10 harg10 hc0 x0 x1 x2)]
  unfold kernelRun0_A
  dsimp only
  sl_unfold_words
  rw [View.canon_unit_zero hz]
  simp only [View.readAt_eq_ld, harg4.read_unread, harg5.read_unread, View.ld_unit_zero (S := S2048x128) hz]
  rfl

end Cases

/-- The output block, read at an index: one head's attention of the row, over the group's keys and values. -/
theorem block_apply (g : Fin 2) (q : Vec Ideal S512x256 .bf16) (k v : Vec Ideal S2048x128 .bf16) (r : Fin 512) (col : Fin 256) :
    block q (KLo g k) (KHi g k) (VLo g v) (VHi g v) (ix2 r col)
      = head (fun d => q (ix2 r ⟨col.val / 64 * 64 + d.val, by omega⟩)) (fun j d => k (ix2 j ⟨g.val * 64 + d.val, by omega⟩))
          (fun j => v (ix2 j ⟨g.val * 64 + col.val % 64, by omega⟩)) := by
  have hlo : ∀ (q' : Fin 128 → EReal) (l : Fin 128), l.val < 64 →
      unit q' (fun j l => KLo g k (ix2 j l)) (fun j => VLo g v (ix2 j l)) (fun j => VLo g v (ix2 j 64))
        = head (fun d => q' ⟨d.val, by omega⟩) (fun j d => k (ix2 j ⟨g.val * 64 + d.val, by omega⟩))
          (fun j => v (ix2 j ⟨g.val * 64 + l.val % 64, by omega⟩)) := fun q' l hl => by
    refine (unit_lo q' (fun j d => k (ix2 j ⟨g.val * 64 + d.val, by omega⟩)) _ _ _ (fun j l => klo_apply g k j l) (fun j => (vlo_apply g v j 64).trans (if_pos rfl))).trans ?_
    congr 1; funext j
    refine (vlo_apply g v j l).trans ?_
    rw [if_neg (by omega), if_pos hl]
  have hhi : ∀ (q' : Fin 128 → EReal) (l : Fin 128), ¬l.val < 64 →
      unit q' (fun j l => KHi g k (ix2 j l)) (fun j => VHi g v (ix2 j l)) (fun j => VHi g v (ix2 j 0))
        = head (fun d => q' ⟨64 + d.val, by omega⟩) (fun j d => k (ix2 j ⟨g.val * 64 + d.val, by omega⟩))
          (fun j => v (ix2 j ⟨g.val * 64 + l.val % 64, by omega⟩)) := fun q' l hl => by
    refine (unit_hi q' (fun j d => k (ix2 j ⟨g.val * 64 + d.val, by omega⟩)) _ _ _ (fun j l => khi_apply g k j l) (fun j => (vhi_apply g v j 0).trans (if_pos rfl))).trans ?_
    congr 1; funext j
    refine (vhi_apply g v j l).trans ?_
    rw [if_neg (by omega), if_neg hl]
  unfold block
  refine View.canon_eq_of_allAt _ _ _ ?_ ?_
  · refine View.cover_of_tiled_head _ _ _ rfl _
  refine View.allAt_cons_unit _ _ _ _ _ ?_ (View.allAt_cons_unit _ _ _ _ _ ?_ (View.allAt_nil _ _))
  · intro x hx
    have h0 : r.val = 0 + (x 0).val := hx 0
    have h1 : col.val = 128 + (x 1).val := hx 1
    have hx0 : (x 0).val < 512 := (x 0).isLt
    have hx1 : (x 1).val < 128 := (x 1).isLt
    obtain ⟨r', l, rfl⟩ : ∃ (r' : Fin 512) (l : Fin 128), x = ix2 r' l := ⟨⟨_, hx0⟩, ⟨_, hx1⟩, funext fun a => by fin_cases a <;> rfl⟩
    have h0 : r.val = 0 + r'.val := h0
    have h1 : col.val = 128 + l.val := h1
    obtain rfl : r = r' := Fin.ext (by omega)
    refine (pay2_apply _ _ _ _ _ r l).trans ?_
    split_ifs with hl
    · refine (hlo _ l hl).trans ?_
      congr 1
      · funext d; rw [View.ld_apply]; congr 1; funext a; apply Fin.ext; fin_cases a <;> simp [Rect.emb_apply, Rect.unit] <;> omega
      · funext j; congr 3; omega
    · refine (hhi _ l hl).trans ?_
      congr 1
      · funext d; rw [View.ld_apply]; congr 1; funext a; apply Fin.ext; fin_cases a <;> simp [Rect.emb_apply, Rect.unit] <;> omega
      · funext j; congr 3; omega
  · intro x hx
    have h0 : r.val = 0 + (x 0).val := hx 0
    have h1 : col.val = 0 + (x 1).val := hx 1
    have hx0 : (x 0).val < 512 := (x 0).isLt
    have hx1 : (x 1).val < 128 := (x 1).isLt
    obtain ⟨r', l, rfl⟩ : ∃ (r' : Fin 512) (l : Fin 128), x = ix2 r' l := ⟨⟨_, hx0⟩, ⟨_, hx1⟩, funext fun a => by fin_cases a <;> rfl⟩
    have h0 : r.val = 0 + r'.val := h0
    have h1 : col.val = 0 + l.val := h1
    obtain rfl : r = r' := Fin.ext (by omega)
    refine (pay1_apply _ _ _ _ _ r l).trans ?_
    split_ifs with hl
    · refine (hlo _ l hl).trans ?_
      congr 1
      · funext d; rw [View.ld_apply]; congr 1; funext a; apply Fin.ext; fin_cases a <;> simp [Rect.emb_apply, Rect.unit] <;> omega
      · funext j; congr 3; omega
    · refine (hhi _ l hl).trans ?_
      congr 1
      · funext d; rw [View.ld_apply]; congr 1; funext a; apply Fin.ext; fin_cases a <;> simp [Rect.emb_apply, Rect.unit] <;> omega
      · funext j; congr 3; omega

end Cert.GqaIdeal.Hand

end
-- ==== Proof.GqaRun.lean ====
/-
  The attention kernel's result array: the points' output blocks put together, one head of attention per index.
-/
module

public import proofs.«01_k».proof.Proof.GqaBlock

@[expose] public section

set_option maxRecDepth 16384

noncomputable section

namespace Cert.GqaIdeal.Hand

open Cert.GqaIdeal Cert.GqaIdeal.Gen Idealize.ShloMosaic Idealize.ShloMosaic.TcCoe Idealize.SL.Sem Cert.Softmax

variable (m : (ℓ : Loc nD τ sig) → Buf (Elt Ideal) ℓ) (c : Dev nD)

/-- The projection array the kernel reads. -/
abbrev arg : Vec Ideal S32768x6400 .bf16 := m (c.tc.loc main_arg0)

/-- The blocks the windows name at a point: the batch, the query block and the group. -/
theorem index_facts : ∀ t : Fin grid0.N,
    (win0_0.index t 0 = t.val / 8 * 4 + t.val % 4 ∧ win0_0.index t 1 = 20 + t.val / 4 % 2)
    ∧ (win0_1.index t 0 = t.val / 8 ∧ win0_1.index t 1 = 48) ∧ (win0_2.index t 0 = t.val / 8 ∧ win0_2.index t 1 = 49)
    ∧ (win0_3.index t 0 = t.val / 8 * 4 + t.val % 4 ∧ win0_3.index t 1 = t.val / 4 % 2) ∧ (grid0.coords t 1).val = t.val / 4 % 2 := by
  decide +kernel

/-- The query block of a point. -/
theorem q_apply (t : Fin cfg0.N) (r : Fin 512) (col : Fin 256) :
    (iblk m c 0 t : Vec Ideal S512x256 .bf16) (ix2 r col)
      = arg m c (ix2 ⟨(t.val / 8 * 4 + t.val % 4) * 512 + r.val, by have := t.isLt; have : cfg0.N = 128 := N_0; omega⟩
          ⟨5120 + t.val / 4 % 2 * 256 + col.val, by omega⟩) := by
  have hi := (index_facts t).1
  unfold iblk
  rw [View.read_apply]
  show V m c main_arg0 _ = m (c.tc.loc main_arg0) _
  unfold V
  congr 1
  funext a
  apply Fin.ext
  match a with
  | ⟨0, _⟩ => show win0_0.index t 0 * 512 + 1 * r.val = (t.val / 8 * 4 + t.val % 4) * 512 + r.val; rw [hi.1]; omega
  | ⟨1, _⟩ => show win0_0.index t 1 * 256 + 1 * col.val = 5120 + t.val / 4 % 2 * 256 + col.val; rw [hi.2]; omega

/-- The key block of a point: its batch's keys. -/
theorem k_apply (t : Fin cfg0.N) (s : Fin 2048) (l : Fin 128) :
    (iblk m c 1 t : Vec Ideal S2048x128 .bf16) (ix2 s l)
      = arg m c (ix2 ⟨t.val / 8 * 2048 + s.val, by have := t.isLt; have : cfg0.N = 128 := N_0; omega⟩ ⟨6144 + l.val, by omega⟩) := by
  have hi := (index_facts t).2.1
  unfold iblk
  rw [View.read_apply]
  show V m c main_arg0 _ = m (c.tc.loc main_arg0) _
  unfold V
  congr 1
  funext a
  apply Fin.ext
  match a with
  | ⟨0, _⟩ => show win0_1.index t 0 * 2048 + 1 * s.val = t.val / 8 * 2048 + s.val; rw [hi.1]; omega
  | ⟨1, _⟩ => show win0_1.index t 1 * 128 + 1 * l.val = 6144 + l.val; rw [hi.2]; omega

/-- The value block of a point: its batch's values. -/
theorem v_apply (t : Fin cfg0.N) (s : Fin 2048) (l : Fin 128) :
    (iblk m c 2 t : Vec Ideal S2048x128 .bf16) (ix2 s l)
      = arg m c (ix2 ⟨t.val / 8 * 2048 + s.val, by have := t.isLt; have : cfg0.N = 128 := N_0; omega⟩ ⟨6272 + l.val, by omega⟩) := by
  have hi := (index_facts t).2.2.1
  unfold iblk
  rw [View.read_apply]
  show V m c main_arg0 _ = m (c.tc.loc main_arg0) _
  unfold V
  congr 1
  funext a
  apply Fin.ext
  match a with
  | ⟨0, _⟩ => show win0_2.index t 0 * 2048 + 1 * s.val = t.val / 8 * 2048 + s.val; rw [hi.1]; omega
  | ⟨1, _⟩ => show win0_2.index t 1 * 128 + 1 * l.val = 6272 + l.val; rw [hi.2]; omega

/-- Every index of a rank-two array is a pair. -/
theorem eq_ix2 {a b : ℕ} (i : (⟨2, ![a, b]⟩ : Shape).Idx) : i = ix2 ⟨(i 0).val, (i 0).isLt⟩ ⟨(i 1).val, (i 1).isLt⟩ :=
  funext fun a => by fin_cases a <;> rfl

/-- Points of one batch read the same keys. -/
theorem k_same (t t' : Fin cfg0.N) (h : t.val / 8 = t'.val / 8) :
    (iblk m c 1 t : Vec Ideal S2048x128 .bf16) = iblk m c 1 t' := by
  funext i
  obtain ⟨s, l, rfl⟩ : ∃ (s : Fin 2048) (l : Fin 128), i = ix2 s l := ⟨_, _, eq_ix2 i⟩
  rw [k_apply m c t, k_apply m c t']; congr 2; apply Fin.ext; dsimp only; rw [h]

/-- Points of one batch read the same values. -/
theorem v_same (t t' : Fin cfg0.N) (h : t.val / 8 = t'.val / 8) :
    (iblk m c 2 t : Vec Ideal S2048x128 .bf16) = iblk m c 2 t' := by
  funext i
  obtain ⟨s, l, rfl⟩ : ∃ (s : Fin 2048) (l : Fin 128), i = ix2 s l := ⟨_, _, eq_ix2 i⟩
  rw [v_apply m c t, v_apply m c t']; congr 2; apply Fin.ext; dsimp only; rw [h]

/-- What point `t` leaves, from its own blocks: the output block and the four scratch blocks. -/
def left (t : Fin cfg0.N) :
    Vec Ideal S512x256 .bf16 × Vec Ideal S2048x128 .bf16 × Vec Ideal S2048x128 .bf16 × Vec Ideal S2048x128 .bf16 × Vec Ideal S2048x128 .bf16 :=
  (block (iblk m c 0 t) (KLo (t.val / 4 % 2) (iblk m c 1 t)) (KHi (t.val / 4 % 2) (iblk m c 1 t)) (VLo (t.val / 4 % 2) (iblk m c 2 t)) (VHi (t.val / 4 % 2) (iblk m c 2 t)),
    KLo (t.val / 4 % 2) (iblk m c 1 t), KHi (t.val / 4 % 2) (iblk m c 1 t), VLo (t.val / 4 % 2) (iblk m c 2 t), VHi (t.val / 4 % 2) (iblk m c 2 t))

/-- Every point leaves what its own blocks give: a point that does not fill the scratch finds it filled from the same
    keys and values. By induction on the point. -/
theorem outs_eq : ∀ (n : ℕ) (h : n < cfg0.N), outsAt0 m c n h = left m c ⟨n, h⟩
  | n, h => by
    have hg := (index_facts ⟨n, h⟩).2.2.2.2
    by_cases h0 : n % 4 = 0
    · rw [outsAt0_A m c ⟨n, h⟩ h0, out_A, sc_A_0, sc_A_1, sc_A_2, sc_A_3, hg]
      rfl
    · have hp : n - 1 < cfg0.N := by omega
      have ih := outs_eq (n - 1) hp
      rw [outsAt0_B m c ⟨n, h⟩ h0]
      unfold sout0_B_0 sout0_B_1 sout0_B_2 sout0_B_3
      rw [out_B]
      dsimp only
      rw [ih]
      unfold left
      dsimp only
      rw [k_same m c ⟨n - 1, hp⟩ ⟨n, h⟩ (by dsimp only; omega), v_same m c ⟨n - 1, hp⟩ ⟨n, h⟩ (by dsimp only; omega),
        show (n - 1) / 4 = n / 4 by omega]
termination_by n => n
decreasing_by omega

/-- The result array: index `(row, col)` is the row's attention with head `col / 64`, coordinate `col % 64`. -/
def result : Vec Ideal S32768x512 .bf16 := fun i =>
  head (fun d => arg m c (ix2 ⟨(i 0).val, (i 0).isLt⟩ ⟨5120 + (i 1).val / 64 * 64 + d.val, by have : (i 1).val < 512 := (i 1).isLt; omega⟩))
    (fun j d => arg m c (ix2 ⟨(i 0).val / 2048 * 2048 + j.val, by have : (i 0).val < 32768 := (i 0).isLt; omega⟩
      ⟨6144 + (i 1).val / 256 * 64 + d.val, by have : (i 1).val < 512 := (i 1).isLt; omega⟩))
    (fun j => arg m c (ix2 ⟨(i 0).val / 2048 * 2048 + j.val, by have : (i 0).val < 32768 := (i 0).isLt; omega⟩
      ⟨6272 + (i 1).val / 256 * 64 + (i 1).val % 64, by have : (i 1).val < 512 := (i 1).isLt; omega⟩))

/-- What a point writes back is its block of that array. -/
theorem flushed_eq (t : Fin cfg0.N) :
    (dats m 0 c).flushed 3 t = ((cfg0.win 3).blk t).view.read (Elt Ideal) (result m c) := by
  have hN : cfg0.N = 128 := N_0
  have ht := t.isLt
  have hi := (index_facts t).2.2.2.1
  rw [Value.flushed3, outs_eq]
  funext i
  obtain ⟨r, col, rfl⟩ : ∃ (r : Fin 512) (col : Fin 256), i = ix2 r col := ⟨_, _, eq_ix2 i⟩
  rw [View.read_apply]
  have e : ((cfg0.win 3).blk t).view.emb (ix2 r col)
      = ix2 (⟨(t.val / 8 * 4 + t.val % 4) * 512 + r.val, by omega⟩ : Fin 32768) (⟨t.val / 4 % 2 * 256 + col.val, by omega⟩ : Fin 512) := by
    funext a
    apply Fin.ext
    match a with
    | ⟨0, _⟩ => show win0_3.index t 0 * 512 + 1 * r.val = _; rw [hi.1]; simp only [Nat.one_mul]; rfl
    | ⟨1, _⟩ => show win0_3.index t 1 * 256 + 1 * col.val = _; rw [hi.2]; simp only [Nat.one_mul]; rfl
  rw [e]
  refine (block_apply ⟨t.val / 4 % 2, by omega⟩ _ _ _ r col).trans ?_
  unfold result
  congr 1
  · funext d; rw [q_apply]; congr 2; apply Fin.ext; show _ = 5120 + (t.val / 4 % 2 * 256 + col.val) / 64 * 64 + d.val; dsimp only; omega
  · funext j d; rw [k_apply]; congr 2 <;> apply Fin.ext
    · show _ = ((t.val / 8 * 4 + t.val % 4) * 512 + r.val) / 2048 * 2048 + j.val; dsimp only; omega
    · show _ = 6144 + (t.val / 4 % 2 * 256 + col.val) / 256 * 64 + d.val; dsimp only; omega
  · funext j; rw [v_apply]; congr 2 <;> apply Fin.ext
    · show _ = ((t.val / 8 * 4 + t.val % 4) * 512 + r.val) / 2048 * 2048 + j.val; dsimp only; omega
    · show _ = 6272 + (t.val / 4 % 2 * 256 + col.val) / 256 * 64 + (t.val / 4 % 2 * 256 + col.val) % 64; dsimp only; omega

/-- Every index lies in some point's block. -/
theorem cover (i : S32768x512.Idx) : ∃ t : Fin cfg0.N, (cfg0.win 3).flush t = true ∧ i ∈ ((cfg0.win 3).blk t).view.set := by
  have hN : cfg0.N = 128 := N_0
  have h0 : (i 0 : Nat) < 32768 := (i 0).isLt
  have h1 : (i 1 : Nat) < 512 := (i 1).isLt
  refine ⟨⟨(i 0).val / 2048 * 8 + (i 1).val / 256 * 4 + (i 0).val / 512 % 4, by omega⟩, flush0_3 _, ?_⟩
  have hi := (index_facts ⟨(i 0).val / 2048 * 8 + (i 1).val / 256 * 4 + (i 0).val / 512 % 4, by show _ < cfg0.N; omega⟩).2.2.2.1
  dsimp only at hi
  generalize ht : (⟨(i 0).val / 2048 * 8 + (i 1).val / 256 * 4 + (i 0).val / 512 % 4, _⟩ : Fin cfg0.N) = t at hi ⊢
  show i ∈ ((View.whole main_v0).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512
              rw [hi.1]; omega
  | ⟨1, _⟩ => show win0_3.index t 1 * 256 ≤ (i 1 : Nat) ∧ (i 1 : Nat) < win0_3.index t 1 * 256 + 256
              rw [hi.2]; omega

/-- So the result array ends holding it. -/
theorem final_o : (dats m 0 c).arrAt 3 cfg0.N = result m c :=
  (dats m 0 c).arrAt_eq_of_cover 3 (result m c) (fun t _ => flushed_eq m c t) cover

end Cert.GqaIdeal.Hand

end
-- ==== Proof.GqaRef.lean ====
/-
  The attention's mathematics (`GqaRefIdeal`), read at an index, and its equality with the kernel's head wherever the
  queries and the keys are finite.
-/
module

public import proofs.«01_k».proof.Proof.GqaPay
public import proofs.«01_k».proof.Proof.Gen.GqaRefIdeal.Read

@[expose] public section

set_option maxRecDepth 16384

noncomputable section

namespace Cert.GqaRefIdeal.Hand

open Cert.GqaRefIdeal Cert.GqaRefIdeal.Gen Cert.GqaRefIdeal.Read Idealize.ShloMosaic Cert.Softmax

variable (x : Vec Ideal S32768x6400 .bf16)

/-- The scaled scores: the key with the query, times `log 2`. -/
theorem score_apply (i : S16x2x4x2048x2048.Idx) :
    val_main_v11 (F := Ideal) x i = (∑ d : Fin 64,
      x (ix2 ⟨(i 0).val * 2048 + (i 4).val, by have : (i 0).val < 16 := (i 0).isLt; have : (i 4).val < 2048 := (i 4).isLt; omega⟩
          ⟨6144 + (i 1).val * 64 + d.val, by have : (i 1).val < 2 := (i 1).isLt; omega⟩)
      * x (ix2 ⟨(i 0).val * 2048 + (i 3).val, by have : (i 0).val < 16 := (i 0).isLt; have : (i 3).val < 2048 := (i 3).isLt; omega⟩
          ⟨5120 + (i 1).val * 256 + (i 2).val * 64 + d.val, by have : (i 1).val < 2 := (i 1).isLt; have : (i 2).val < 4 := (i 2).isLt; omega⟩))
      * (Real.log 2 : ℝ) := by
  rw [val_main_v11_apply, val_main_v8_apply, val_main_v7_apply, val_main_v10_apply, val_main_v9_apply, val_main_cst_apply]
  show _ * Ideal.log (Ideal.ofBits .f32 0x40000000#32) = _
  have h2 : Ideal.ofBits .f32 0x40000000#32 = ((2 : ℝ) : EReal) := by
    simp only [Ideal.ofBits, Ideal.ieee]; simp; rw [← EReal.coe_mul]; norm_num
  rw [h2, Ideal.log_coe, if_neg (by norm_num)]
  congr 1
  refine Finset.sum_congr rfl fun d _ => ?_
  rw [val_main_v4_apply, val_main_v3_apply, val_main_v0_apply, val_main_v2_apply, val_main_v1_apply, val_main_v0_apply]
  have h0 : (i 0).val < 16 := (i 0).isLt
  have h1 : (i 1).val < 2 := (i 1).isLt
  have h2 : (i 2).val < 4 := (i 2).isLt
  have h3 : (i 3).val < 2048 := (i 3).isLt
  have h4 : (i 4).val < 2048 := (i 4).isLt
  have hd : d.val < 64 := d.isLt
  show x _ * x _ = x _ * x _
  congr 2 <;> funext a <;> apply Fin.ext <;> fin_cases a
  · show (((((i 0).val * 2048 + (i 4).val) * 2 + (i 1).val) * 64 + d.val) / 128 : ℕ) = (i 0).val * 2048 + (i 4).val; omega
  · show (6144 + ((((i 0).val * 2048 + (i 4).val) * 2 + (i 1).val) * 64 + d.val) % 128 : ℕ) = 6144 + (i 1).val * 64 + d.val; omega
  · show ((((((i 0).val * 2048 + (i 3).val) * 2 + (i 1).val) * 4 + (i 2).val) * 64 + d.val) / 512 : ℕ) = (i 0).val * 2048 + (i 3).val; omega
  · show (5120 + (((((i 0).val * 2048 + (i 3).val) * 2 + (i 1).val) * 4 + (i 2).val) * 64 + d.val) % 512 : ℕ) = 5120 + (i 1).val * 256 + (i 2).val * 64 + d.val; omega

/-- The greatest score of a row. -/
theorem max_apply (i : S16x2x4x2048.Idx) :
    val_main_v14 (F := Ideal) x i = top fun k => val_main_v11 (F := Ideal) x (idx_main_v19 i k) := by
  rw [val_main_v14_apply, val_main_v13_apply, val_main_cst_1_apply]
  show max (Ideal.ofBits .f32 0xFF800000#32) (val_main_v12 (F := Ideal) x i) = _
  rw [ofBits_bot, max_eq_right bot_le]
  unfold val_main_v12
  generalize val_main_v11 (F := Ideal) x = y
  pointwise
  unfold top
  rw [show val_main_cst_0 (F := Ideal) (Shape.Idx.first h_S_) = (⊥ : EReal) from (val_main_cst_0_apply _).trans ofBits_bot]
  congr 1
  funext k
  congr 1
  funext a
  fin_cases a <;> rfl

/-- The weights: each row's exponentials over their sum. -/
theorem weight_apply (i : S16x2x4x2048x2048.Idx) :
    val_main_v22 (F := Ideal) x i
      = Ideal.div (Ideal.exp (val_main_v11 (F := Ideal) x i - top fun k => val_main_v11 (F := Ideal) x (idx_main_v19 (idx_main_v15 (idx_main_v16 i)) k)))
          (∑ j, Ideal.exp (val_main_v11 (F := Ideal) x (idx_main_v19 (idx_main_v15 (idx_main_v16 i)) j)
            - top fun k => val_main_v11 (F := Ideal) x (idx_main_v19 (idx_main_v15 (idx_main_v16 i)) k))) := by
  rw [val_main_v22_apply, val_main_v18_apply, val_main_v17_apply, val_main_v16_apply, val_main_v15_apply, max_apply,
    val_main_v21_apply, val_main_v20_apply, val_main_v19_apply]
  simp only [val_main_v18_apply, val_main_v17_apply, val_main_v16_apply, val_main_v15_apply, max_apply]
  rw [show val_main_cst_2 (F := Ideal) (Shape.Idx.first h_S_) = (0 : EReal) from (val_main_cst_2_apply _).trans (by simp [Ideal.ofBits, Ideal.ieee])]
  rw [zero_add]
  rfl

/-- THE ATTENTION, at an index: where the queries and the keys are finite, one head of the kernel's. -/
theorem value_apply (i : S32768x512.Idx)
    (hq : ∀ (r : Fin 32768) (l : Fin 512), ∃ y : ℝ, x (ix2 r ⟨5120 + l.val, by omega⟩) = y)
    (hk : ∀ (r : Fin 32768) (l : Fin 128), ∃ y : ℝ, x (ix2 r ⟨6144 + l.val, by omega⟩) = y) :
    val_main_v26 (F := Ideal) x i
      = Cert.GqaIdeal.Hand.head (fun d => x (ix2 ⟨(i 0).val, (i 0).isLt⟩ ⟨5120 + (i 1).val / 64 * 64 + d.val, by have : (i 1).val < 512 := (i 1).isLt; omega⟩))
          (fun j d => x (ix2 ⟨(i 0).val / 2048 * 2048 + j.val, by have : (i 0).val < 32768 := (i 0).isLt; omega⟩
            ⟨6144 + (i 1).val / 256 * 64 + d.val, by have : (i 1).val < 512 := (i 1).isLt; omega⟩))
          (fun j => x (ix2 ⟨(i 0).val / 2048 * 2048 + j.val, by have : (i 0).val < 32768 := (i 0).isLt; omega⟩
            ⟨6272 + (i 1).val / 256 * 64 + (i 1).val % 64, by have : (i 1).val < 512 := (i 1).isLt; omega⟩)) := by
  have hi0 : (i 0).val < 32768 := (i 0).isLt
  have hi1 : (i 1).val < 512 := (i 1).isLt
  rw [val_main_v26_apply, val_main_v25_apply, val_main_v24_apply, val_main_v23_apply]
  show (∑ k : Fin 2048, _) = _
  -- the scores, as the kernel's times log 2
  have hsc : ∀ k j : Fin 2048, val_main_v11 (F := Ideal) x
        (idx_main_v19 (idx_main_v15 (idx_main_v16 (ridx_main_v23 (idx_main_v24 (idx_main_v25 i)) k))) j)
      = (∑ d : Fin 64, x (ix2 ⟨(i 0).val, hi0⟩ ⟨5120 + (i 1).val / 64 * 64 + d.val, by omega⟩)
          * x (ix2 ⟨(i 0).val / 2048 * 2048 + j.val, by omega⟩ ⟨6144 + (i 1).val / 256 * 64 + d.val, by omega⟩)) * (Real.log 2 : ℝ) := by
    intro k j
    rw [score_apply]
    congr 1
    refine Finset.sum_congr rfl fun d _ => ?_
    rw [mul_comm]
    congr 2 <;> funext a <;> apply Fin.ext <;> fin_cases a
    · show (((i 0).val * 512 + (i 1).val) / 1048576 * 2048 + ((i 0).val * 512 + (i 1).val) / 512 % 2048 : ℕ) = (i 0).val; omega
    · show (5120 + ((i 0).val * 512 + (i 1).val) / 256 % 2 * 256 + ((i 0).val * 512 + (i 1).val) / 64 % 4 * 64 + d.val : ℕ) = 5120 + (i 1).val / 64 * 64 + d.val; omega
    · show (((i 0).val * 512 + (i 1).val) / 1048576 * 2048 + j.val : ℕ) = (i 0).val / 2048 * 2048 + j.val; omega
    · show (6144 + ((i 0).val * 512 + (i 1).val) / 256 % 2 * 64 + d.val : ℕ) = 6144 + (i 1).val / 256 * 64 + d.val; omega
  have hw : ∀ k : Fin 2048, ridx_main_v23 (idx_main_v24 (idx_main_v25 i)) k
      = idx_main_v19 (idx_main_v15 (idx_main_v16 (ridx_main_v23 (idx_main_v24 (idx_main_v25 i)) k))) k := by
    intro k; funext a; fin_cases a <;> rfl
  have hv : ∀ k : Fin 2048, val_main_v6 (F := Ideal) x (lidx_main_v23 (idx_main_v24 (idx_main_v25 i)) k)
      = x (ix2 ⟨(i 0).val / 2048 * 2048 + k.val, by omega⟩ ⟨6272 + (i 1).val / 256 * 64 + (i 1).val % 64, by omega⟩) := by
    intro k
    have hk' := k.isLt
    have e1 : ((i 0).val * 512 + (i 1).val) / 1048576 = (i 0).val / 2048 := by omega
    have e2 : ((i 0).val * 512 + (i 1).val) / 256 % 2 = (i 1).val / 256 := by omega
    have e3 : ((i 0).val * 512 + (i 1).val) % 64 = (i 1).val % 64 := by omega
    rw [val_main_v6_apply, val_main_v5_apply, val_main_v0_apply]
    show x _ = x _
    congr 1; funext a; apply Fin.ext; fin_cases a
    · show (((((i 0).val * 512 + (i 1).val) / 1048576 * 2048 + k.val) * 2 + ((i 0).val * 512 + (i 1).val) / 256 % 2) * 64 + ((i 0).val * 512 + (i 1).val) % 64) / 128 = (i 0).val / 2048 * 2048 + k.val
      rw [e1, e2, e3]; omega
    · show 6272 + (((((i 0).val * 512 + (i 1).val) / 1048576 * 2048 + k.val) * 2 + ((i 0).val * 512 + (i 1).val) / 256 % 2) * 64 + ((i 0).val * 512 + (i 1).val) % 64) % 128 = 6272 + (i 1).val / 256 * 64 + (i 1).val % 64
      rw [e1, e2, e3]; omega
  have hr : ∀ j : Fin 2048, ∃ y : ℝ, (∑ d : Fin 64, x (ix2 ⟨(i 0).val, hi0⟩ ⟨5120 + (i 1).val / 64 * 64 + d.val, by omega⟩)
          * x (ix2 ⟨(i 0).val / 2048 * 2048 + j.val, by omega⟩ ⟨6144 + (i 1).val / 256 * 64 + d.val, by omega⟩)) = y := fun j =>
    exists_sum_mul _ _
      (fun d => by
        obtain ⟨y, hy⟩ := hq ⟨(i 0).val, hi0⟩ ⟨(i 1).val / 64 * 64 + d.val, by omega⟩
        exact ⟨y, (by rw [← hy]; congr 2; apply Fin.ext; dsimp only; omega)⟩)
      (fun d => by
        obtain ⟨y, hy⟩ := hk ⟨(i 0).val / 2048 * 2048 + j.val, by omega⟩ ⟨(i 1).val / 256 * 64 + d.val, by omega⟩
        exact ⟨y, (by rw [← hy]; congr 2; apply Fin.ext; dsimp only; omega)⟩)
  choose r hr using hr
  unfold Cert.GqaIdeal.Hand.head
  rw [softmax_mean (by norm_num) _ (fun j => ((r j * Real.log 2 : ℝ) : EReal)) _ r hr (fun _ => rfl)]
  refine Finset.sum_congr rfl fun k _ => ?_
  rw [hv k, weight_apply]
  have hs : ∀ j : Fin 2048, val_main_v11 (F := Ideal) x
        (idx_main_v19 (idx_main_v15 (idx_main_v16 (ridx_main_v23 (idx_main_v24 (idx_main_v25 i)) k))) j) = ((r j * Real.log 2 : ℝ) : EReal) := fun j => by
    rw [hsc k j, hr j, EReal.coe_mul]
  have hs' : val_main_v11 (F := Ideal) x (ridx_main_v23 (idx_main_v24 (idx_main_v25 i)) k) = ((r k * Real.log 2 : ℝ) : EReal) := by
    rw [hw k]; exact hs k
  simp only [hs, hs']

end Cert.GqaRefIdeal.Hand

end
-- ==== Proof.GqaClaims.lean ====
/-
  The claims about the attention: its runs, and the kernel's result array against the mathematics'.
-/
module

public import proofs.«01_k».proof.Defs
public import proofs.«01_k».proof.Proof.GqaRun
public import proofs.«01_k».proof.Proof.GqaRef
public import proofs.«01_k».proof.Proof.Gen.Gqa.Frame
public import proofs.«01_k».proof.Proof.Gen.GqaRefIdeal.Run
public import Idealize.ShloMosaic.Lib.Quiescent

@[expose] public section

set_option maxRecDepth 16384

noncomputable section

open Idealize.ShloMosaic Idealize.ShloMosaic.TcCoe Idealize.SL.Sem

namespace Cert.Proof.GqaClaims

/-- The precondition's printed facts. -/
theorem preFacts : Cert.Pre_gqa_finite.Facts where
  bitsLt_bf16_f32 := by decide
  slices_S32768x6400_S32768x512_0_5120 := by decide
  bcast_S_S32768x512 := by decide
  slices_S32768x6400_S32768x128_0_6144 := by decide
  bcast_S_S32768x128 := by decide

/-- A value whose magnitude compares below infinity is a real number. -/
theorem real_of_abs_lt (x : EReal)
    (h : FloatOps.cmpf (F := Ideal) (φ := .f32) .olt (FloatOps.absf (F := Ideal) (φ := .f32) x) (Ideal.ofBits .f32 0x7F800000#32) = 1#1) :
    ∃ y : ℝ, x = y := by
  have ht : Ideal.ofBits .f32 0x7F800000#32 = (⊤ : EReal) := by simp [Ideal.ofBits, Ideal.ieee]
  rw [ht] at h
  induction x using EReal.rec with
  | bot => exfalso; revert h; simp [Ideal.cmpf_def, Ideal.absf_def, Ideal.cmp]
  | top => exfalso; revert h; simp [Ideal.cmpf_def, Ideal.absf_def, Ideal.cmp]
  | coe y => exact ⟨y, rfl⟩

/-- The kernel runs, its argument unchanged. -/
theorem frame_p : Cert.quiescent_Gqa (hGqa := Cert.Gqa.Gen.facts) := fun m ρ _ => Cert.Gqa.Gen.frame m ρ

/-- Its idealization runs, its argument unchanged. -/
theorem frame_pi : Cert.quiescent_GqaIdeal (hGqaIdeal := Cert.GqaIdeal.Gen.facts) := fun m ρ _ => Cert.GqaIdeal.Gen.frame m ρ

/-- The same under the precondition. -/
theorem frame_pi_pre : Cert.quiescent_GqaIdeal_pre_gqa_finite (hGqaIdeal := Cert.GqaIdeal.Gen.facts) (hPre_gqa_finite := preFacts) :=
  fun m ρ _ => Cert.GqaIdeal.Gen.frame m ρ

/-- The mathematics runs, its argument unchanged. -/
theorem frame_ri : Cert.quiescent_GqaRefIdeal (hGqaRefIdeal := Cert.GqaRefIdeal.Gen.facts) := fun m ρ _ =>
  (θ_run Cert.GqaRefIdeal.defs _ _).mono (fun r h => ⟨fun c => (h c).2, Idealize.ShloMosaic.sem_eq_zero_of_no_sems (by decide) r.2⟩)
    (Cert.GqaRefIdeal.Value.run (F := Ideal) m ρ)

/-- The same under the precondition. -/
theorem frame_ri_pre : Cert.quiescent_GqaRefIdeal_pre_gqa_finite (hGqaRefIdeal := Cert.GqaRefIdeal.Gen.facts) (hPre_gqa_finite := preFacts) :=
  fun m ρ _ => frame_ri m ρ trivial

/-- Under the precondition the queries are real numbers, and so are the keys. -/
theorem real_of_pre (m : (ℓ : Loc Cert.GqaIdeal.nD Cert.GqaIdeal.τ Cert.GqaIdeal.sig) → Buf (Elt Ideal) ℓ)
    (h : Cert.Pre_GqaIdeal_gqa_finite (hPre_gqa_finite := preFacts) m) (c : Dev Cert.GqaIdeal.nD) :
    (∀ (r : Fin 32768) (l : Fin 512), ∃ y : ℝ, Cert.GqaIdeal.Hand.arg m c (ix2 r ⟨5120 + l.val, by omega⟩) = y)
    ∧ (∀ (r : Fin 32768) (l : Fin 128), ∃ y : ℝ, Cert.GqaIdeal.Hand.arg m c (ix2 r ⟨6144 + l.val, by omega⟩) = y) := by
  obtain ⟨h1, h2⟩ := h c
  constructor
  · intro r l
    have e := congrFun h1 (ix2 r l)
    apply real_of_abs_lt
    rw [← e]
    unfold Cert.Pre_gqa_finite.fn
    pointwise
  · intro r l
    have e := congrFun h2 (ix2 r l)
    apply real_of_abs_lt
    rw [← e]
    unfold Cert.Pre_gqa_finite.fn
    pointwise

/-- The kernel's result array is the mathematics' on every index, wherever the queries and the keys are finite. -/
theorem algebraic : Cert.algebraic_GqaIdeal_GqaRefIdeal_pre_gqa_finite (hGqaIdeal := Cert.GqaIdeal.Gen.facts)
    (hGqaRefIdeal := Cert.GqaRefIdeal.Gen.facts) (hPre_gqa_finite := preFacts) := by
  intro m ρ m' ρ' hpre hagree
  refine ⟨_, Cert.GqaIdeal.Value.run_blocks (F := Ideal) m ρ, ?_⟩
  refine (θ_run Cert.GqaRefIdeal.defs _ _).mono (fun _ h c => ⟨(h c).1.trans ?_, (h c).2⟩)
    (Cert.GqaRefIdeal.Value.run (F := Ideal) m' ρ')
  rw [Cert.GqaRefIdeal.Read.val_main_v26_eq, hagree c]
  refine Eq.trans ?_ (Cert.GqaIdeal.Hand.final_o m c).symm
  obtain ⟨hq, hk⟩ := real_of_pre m hpre c
  funext i
  exact Cert.GqaRefIdeal.Hand.value_apply (Cert.GqaIdeal.Hand.arg m c) i hq hk

end Cert.Proof.GqaClaims

end
-- ==== Proof.MergeMath.lean ====
/-
  The merge and its feed-forward part as functions of rows of extended reals: the root-mean-square norm, one cross head,
  the gated sum of the branches, the squared-ReLU feed-forward part.
-/
module

public import proofs.«01_k».proof.Proof.Softmax

@[expose] public section

set_option maxRecDepth 16384

noncomputable section

namespace Cert.MergeMath

open Idealize.ShloMosaic Cert.Softmax

/-- The root-mean-square norm of a row, with weights `w`. -/
def rms (x w : Fin 1024 → EReal) (j : Fin 1024) : EReal :=
  x j * Ideal.rsqrt (Ideal.div (∑ k, x k * x k) (Ideal.ofBits .f32 0x44800000#32) + Ideal.ofBits .f32 0x358637BD#32) * w j

/-- A row times a matrix. -/
def dot {n k : ℕ} (x : Fin n → EReal) (w : Fin n → Fin k → EReal) (j : Fin k) : EReal := ∑ i, x i * w i j

/-- The scale of a cross head's scores: `1 / √128`, and `1 / log 2` for the exponentials to base two. -/
def scale : ℝ := (Real.sqrt 128)⁻¹ * (Real.log 2)⁻¹

/-- ONE CROSS HEAD, at one coordinate: the softmax-weighted mean of the values `v` under the scaled scores of the query
    `q` with the keys `k`. -/
def cross (q : Fin 128 → EReal) (k : Fin 256 → Fin 128 → EReal) (v : Fin 256 → EReal) : EReal :=
  Ideal.div (∑ j, Ideal.exp2 ((∑ d, q d * k j d) * scale - top fun j => (∑ d, q d * k j d) * scale) * v j)
    (∑ j, Ideal.exp2 ((∑ d, q d * k j d) * scale - top fun j => (∑ d, q d * k j d) * scale))

/-- The four cross heads of a row, side by side. -/
def heads (q : Fin 512 → EReal) (mk mv : Fin 256 → Fin 512 → EReal) (l : Fin 512) : EReal :=
  cross (fun d => q ⟨l.val / 128 * 128 + d.val, by omega⟩) (fun j d => mk j ⟨l.val / 128 * 128 + d.val, by omega⟩) fun j => mv j l

/-- The logistic function of a gate. -/
def gate (g : EReal) : EReal := Ideal.div 1 (1 + Ideal.exp (-g))

/-- The gated sum of the three branches, each through its own matrix. -/
def merged (g : Fin 3 → Fin 1024 → EReal) (y : Fin 3 → Fin 512 → EReal) (wb : Fin 3 → Fin 512 → Fin 1024 → EReal) (j : Fin 1024) : EReal :=
  gate (g 0 j) * dot (y 0) (wb 0) j + gate (g 1 j) * dot (y 1) (wb 1) j + gate (g 2 j) * dot (y 2) (wb 2) j

/-- One hidden unit of the feed-forward part, squared: `max(u, 0) ^ 2`. -/
def relu2 (u : EReal) : EReal := max u 0 * max u 0

/-- The feed-forward part over the hidden units `o … o + 1023`. -/
def ffn (o : ℕ) (ho : o ≤ 3072) (h : Fin 1024 → EReal) (wu : Fin 1024 → Fin 4096 → EReal) (wd : Fin 4096 → Fin 1024 → EReal) (j : Fin 1024) : EReal :=
  ∑ f : Fin 1024, relu2 (dot h wu ⟨o + f.val, by omega⟩) * wd ⟨o + f.val, by omega⟩ j

/-- The row after the mixers: the residual plus the merged branches' projection. -/
def mixed (x m : Fin 1024 → EReal) (wo : Fin 1024 → Fin 1024 → EReal) (j : Fin 1024) : EReal := x j + dot m wo j

/-- The row after the feed-forward part, its hidden units summed in four runs. -/
def fed (x nw : Fin 1024 → EReal) (wu : Fin 1024 → Fin 4096 → EReal) (wd : Fin 4096 → Fin 1024 → EReal) (j : Fin 1024) : EReal :=
  x j + ffn 0 (by omega) (rms x nw) wu wd j + ffn 1024 (by omega) (rms x nw) wu wd j + ffn 2048 (by omega) (rms x nw) wu wd j
    + ffn 3072 (by omega) (rms x nw) wu wd j

/-- The four runs are the sum over all hidden units. -/
theorem fed_eq (x nw : Fin 1024 → EReal) (wu : Fin 1024 → Fin 4096 → EReal) (wd : Fin 4096 → Fin 1024 → EReal) (j : Fin 1024) :
    fed x nw wu wd j = x j + ∑ f : Fin 4096, relu2 (dot (rms x nw) wu f) * wd f j := by
  have e : ∀ φ : Fin 4096 → EReal, ∑ f, φ f = (∑ f : Fin 1024, φ ⟨f.val, by omega⟩) + (∑ f : Fin 1024, φ ⟨1024 + f.val, by omega⟩)
      + (∑ f : Fin 1024, φ ⟨2048 + f.val, by omega⟩) + ∑ f : Fin 1024, φ ⟨3072 + f.val, by omega⟩ := fun φ => by
    rw [Fin.sum_univ_add (a := 3072) (b := 1024) φ]
    rw [Fin.sum_univ_add (a := 2048) (b := 1024) fun i => φ (Fin.castAdd 1024 i)]
    rw [Fin.sum_univ_add (a := 1024) (b := 1024) fun i => φ (Fin.castAdd 1024 (Fin.castAdd 1024 i))]
    rfl
  unfold fed ffn
  rw [e]
  simp only [add_assoc, Nat.zero_add]

end Cert.MergeMath

end
-- ==== Proof.MergePay.lean ====
/-
  The merge kernel's stored values, read at an index over the extended reals.
-/
module

public import proofs.«01_k».proof.Proof.MergeMath
public import proofs.«01_k».proof.Proof.Gen.MergeIdeal.Skeleton
public import Idealize.ShloMosaic.Lib.Pointwise

@[expose] public section

set_option maxRecDepth 16384

noncomputable section

namespace Cert.MergeIdeal.Hand

open Cert.MergeIdeal Cert.MergeIdeal.Gen Idealize.ShloMosaic Cert.Softmax Cert.MergeMath

/-- The row `r` of a rank-two array. -/
abbrev row {a b : ℕ} (x : (⟨2, ![a, b]⟩ : Shape).Idx → EReal) (r : Fin a) : Fin b → EReal := fun j => x (ix2 r j)

/-- A rank-two array as a matrix. -/
abbrev mat {a b : ℕ} (x : (⟨2, ![a, b]⟩ : Shape).Idx → EReal) : Fin a → Fin b → EReal := fun i j => x (ix2 i j)

/-- A branch's matrix, held in a rank-three block of one. -/
abbrev mat3 {a b : ℕ} (x : (⟨3, ![1, a, b]⟩ : Shape).Idx → EReal) : Fin a → Fin b → EReal := fun i j => x (ix3 0 i j)

/-- The memory's keys and values: the normed memory rows times the weights. -/
theorem pay2_apply (x : Vec Ideal S256x1024 .f32) (w : Vec Ideal S1x1024 .f32) (k : Vec Ideal S1024x1024 .bf16) (r : Fin 256) (l : Fin 1024) :
    k0_pay2 (F := Ideal) x w k (ix2 r l) = dot (rms (row x r) (row w 0)) (mat k) l := by
  unfold dot rms
  pointwise [k0_pay2]

/-- The keys are its first 512 columns. -/
theorem pay3_apply (x : Vec Ideal S256x1024 .f32) (w : Vec Ideal S1x1024 .f32) (k : Vec Ideal S1024x1024 .bf16) (r : Fin 256) (l : Fin 512) :
    k0_pay3 (F := Ideal) x w k (ix2 r l) = dot (rms (row x r) (row w 0)) (mat k) ⟨l.val, by omega⟩ := by
  rw [← pay2_apply]
  pointwise [k0_pay3]

/-- The values are its last 512 columns. -/
theorem pay4_apply (x : Vec Ideal S256x1024 .f32) (w : Vec Ideal S1x1024 .f32) (k : Vec Ideal S1024x1024 .bf16) (r : Fin 256) (l : Fin 512) :
    k0_pay4 (F := Ideal) x w k (ix2 r l) = dot (rms (row x r) (row w 0)) (mat k) ⟨512 + l.val, by omega⟩ := by
  rw [← pay2_apply]
  pointwise [k0_pay4]

/-- The score scale's name stands for its value. -/
theorem scale_eq : Named.named (F := Ideal) Cert.MergeIdeal.κ "x_scale" (φ := .f32) 0x3E0293EE#32 = ((scale : ℝ) : EReal) :=
  IdealRules.named_const.ideal_named_scalar _ _ _ _ rfl

/-- The four cross heads of the block's rows, from the four runs of 128 columns of the queries, the keys and the values. -/
def mix (q0 q1 q2 q3 : Vec Ideal S512x128 .bf16) (k0 k1 k2 k3 v0 v1 v2 v3 : Vec Ideal S256x128 .bf16) : Vec Ideal S512x512 .bf16 :=
  k0_pay19 (F := Ideal) (k0_pay11 q3 k3) (k0_pay12 (k0_pay5 q0 k0)) (k0_pay13 (k0_pay6 q1 k1)) (k0_pay14 (k0_pay7 q2 k2)) (k0_pay15 q3 k3)
    (k0_pay16 (k0_pay5 q0 k0) v0) (k0_pay17 (k0_pay6 q1 k1) v1) (k0_pay18 (k0_pay7 q2 k2)) v2 (constant S512x128 .f32 0x00000000#32) v3

/-- The four heads, read at an index. -/
theorem mix_apply (q0 q1 q2 q3 : Vec Ideal S512x128 .bf16) (k0 k1 k2 k3 v0 v1 v2 v3 : Vec Ideal S256x128 .bf16) (r : Fin 512) (l : Fin 512) :
    mix q0 q1 q2 q3 k0 k1 k2 k3 v0 v1 v2 v3 (ix2 r l)
      = if h : l.val < 128 then cross (row q0 r) (mat k0) fun j => v0 (ix2 j ⟨l.val, h⟩)
        else if h : l.val - 128 < 128 then cross (row q1 r) (mat k1) fun j => v1 (ix2 j ⟨l.val - 128, h⟩)
        else if h : l.val - 128 - 128 < 128 then cross (row q2 r) (mat k2) fun j => v2 (ix2 j ⟨l.val - 128 - 128, h⟩)
        else cross (row q3 r) (mat k3) fun j => v3 (ix2 j ⟨l.val - 128 - 128 - 128, by omega⟩) := by
  unfold mix cross top
  pointwise [k0_pay19, k0_pay11, k0_pay12, k0_pay13, k0_pay14, k0_pay15, k0_pay16, k0_pay17, k0_pay18, k0_pay5, k0_pay6, k0_pay7, k0_pay8, k0_pay9, k0_pay10]
  simp only [scale_eq, ofBits_bot]
  rfl

/-- The rows after the mixers. -/
def mixedPay (yx y0 y1 : Vec Ideal S512x512 .bf16) (b0 b1 b2 : Vec Ideal S1x512x1024 .bf16) (g0 g1 g2 : Vec Ideal S512x1024 .bf16)
    (x : Vec Ideal S512x1024 .f32) (wo : Vec Ideal S1024x1024 .bf16) : Vec Ideal S512x1024 .f32 :=
  k0_pay23 (F := Ideal) yx (k0_pay20 y0 b0 g0) (k0_pay21 y1 b1) (k0_pay22 g1) (Scalar.ofBits .f32 0x00000000#32) b2 g2 x wo

/-- The rows after the mixers, at an index: the residual plus the gated branches through the output matrix. -/
theorem mixedPay_apply (yx y0 y1 : Vec Ideal S512x512 .bf16) (b0 b1 b2 : Vec Ideal S1x512x1024 .bf16) (g0 g1 g2 : Vec Ideal S512x1024 .bf16)
    (x : Vec Ideal S512x1024 .f32) (wo : Vec Ideal S1024x1024 .bf16) (r : Fin 512) (l : Fin 1024) :
    mixedPay yx y0 y1 b0 b1 b2 g0 g1 g2 x wo (ix2 r l)
      = mixed (row x r) (merged ![row g0 r, row g1 r, row g2 r] ![row y0 r, row y1 r, row yx r] ![mat3 b0, mat3 b1, mat3 b2]) (mat wo) l := by
  unfold mixedPay mixed merged gate dot
  pointwise [k0_pay23, k0_pay20, k0_pay21, k0_pay22]
  simp only [zero_sub]

/-- The factor of the feed-forward norm. -/
def factor (yx y0 y1 : Vec Ideal S512x512 .bf16) (b0 b1 b2 : Vec Ideal S1x512x1024 .bf16) (g0 g1 g2 : Vec Ideal S512x1024 .bf16)
    (x : Vec Ideal S512x1024 .f32) (wo : Vec Ideal S1024x1024 .bf16) : Vec Ideal S512x1 .f32 :=
  k0_pay25 (F := Ideal) yx (k0_pay20 y0 b0 g0) (k0_pay21 y1 b1) (k0_pay22 g1) (Scalar.ofBits .f32 0x00000000#32) b2 g2 x wo

/-- It is the reciprocal root of the mean square of the row after the mixers. -/
theorem factor_apply (yx y0 y1 : Vec Ideal S512x512 .bf16) (b0 b1 b2 : Vec Ideal S1x512x1024 .bf16) (g0 g1 g2 : Vec Ideal S512x1024 .bf16)
    (x : Vec Ideal S512x1024 .f32) (wo : Vec Ideal S1024x1024 .bf16) (r : Fin 512) (l : Fin 1) :
    factor yx y0 y1 b0 b1 b2 g0 g1 g2 x wo (ix2 r l)
      = Ideal.rsqrt (Ideal.div (∑ k, mixedPay yx y0 y1 b0 b1 b2 g0 g1 g2 x wo (ix2 r k) * mixedPay yx y0 y1 b0 b1 b2 g0 g1 g2 x wo (ix2 r k))
          (Ideal.ofBits .f32 0x44800000#32) + Ideal.ofBits .f32 0x358637BD#32) := by
  unfold factor mixedPay
  pointwise [k0_pay25]

/-- The normed rows: the feed-forward part's input. -/
theorem pay26_apply (x : Vec Ideal S512x1024 .f32) (nw : Vec Ideal S1x1024 .f32) (s : Vec Ideal S512x1 .f32) (r : Fin 512) (l : Fin 1024) :
    k0_pay26 (F := Ideal) x (k0_pay24 nw) s (ix2 r l) = x (ix2 r l) * s (ix2 r 0) * nw (ix2 0 l) := by
  pointwise [k0_pay26, k0_pay24]

/-- The rows after three of the four runs of hidden units. -/
theorem pay27_apply (x : Vec Ideal S512x1024 .f32) (n : Vec Ideal S1x1024 .f32) (s : Vec Ideal S512x1 .f32) (a b c d e f : Vec Ideal S1024x1024 .bf16) (r : Fin 512) (l : Fin 1024) :
    k0_pay27 (F := Ideal) x n s a b c d e f (ix2 r l)
      = x (ix2 r l) + (∑ i, relu2 (dot (row (k0_pay26 (F := Ideal) x n s) r) (mat a) i) * b (ix2 i l))
        + (∑ i, relu2 (dot (row (k0_pay26 (F := Ideal) x n s) r) (mat c) i) * d (ix2 i l))
        + ∑ i, relu2 (dot (row (k0_pay26 (F := Ideal) x n s) r) (mat e) i) * f (ix2 i l) := by
  unfold relu2 dot
  pointwise [k0_pay27]

/-- The stored rows: the fourth run added, and the closing norm. -/
theorem pay1_apply (h : Vec Ideal S512x1024 .bf16) (y : Vec Ideal S512x1024 .f32) (a b : Vec Ideal S1024x1024 .bf16) (w : Vec Ideal S1x1024 .f32) (r : Fin 512) (l : Fin 1024) :
    k0_pay1 (F := Ideal) h y a b w (ix2 r l)
      = rms (fun j => y (ix2 r j) + ∑ i, relu2 (dot (row h r) (mat a) i) * b (ix2 i j)) (row w 0) l := by
  unfold rms relu2 dot
  pointwise [k0_pay1]

end Cert.MergeIdeal.Hand

end
-- ==== Proof.MergeBlock.lean ====
/-
  The merge kernel's run, read: what every grid point leaves in the scratch blocks (the memory's keys and values) and in
  the output's block, as functions of the point's input blocks; and the output block's rows.
-/
module

public import proofs.«01_k».proof.Proof.MergePay
public import proofs.«01_k».proof.Proof.Gen.MergeIdeal.Value
public import Idealize.ShloMosaic.Lib.Tactic
public import Idealize.ShloMosaic.Lib.Pipeline.ValueKit.Tiles
public import Idealize.ShloMosaic.Lib.Pipeline.ReadBack

@[expose] public section

set_option maxRecDepth 16384

noncomputable section

namespace Cert.MergeIdeal.Hand

open Cert.MergeIdeal Cert.MergeIdeal.Gen Idealize.ShloMosaic Idealize.ShloMosaic.TcCoe Idealize.SL.Sem Cert.Softmax Cert.MergeMath

/-- The block of a rank-two array at zero offsets. -/
theorem hz : (![0, 0] : Fin 2 → Nat) = fun _ => 0 := funext fun a => by fin_cases a <;> rfl

/-- The cross heads of a block of queries and the memory's keys and values. -/
def crossed (q : Vec Ideal S512x512 .bf16) (mk mv : Vec Ideal S256x512 .bf16) : Vec Ideal S512x512 .bf16 :=
  mix (View.ld q (Rect.unit (s := S512x512) ![0, 0] S512x128.size inb_S512x512_S512x128_0_0)) (View.ld q (Rect.unit (s := S512x512) ![0, 128] S512x128.size inb_S512x512_S512x128_0_128)) (View.ld q (Rect.unit (s := S512x512) ![0, 256] S512x128.size inb_S512x512_S512x128_0_256)) (View.ld q (Rect.unit (s := S512x512) ![0, 384] S512x128.size inb_S512x512_S512x128_0_384))
    (View.ld mk (Rect.unit (s := S256x512) ![0, 0] S256x128.size inb_S256x512_S256x128_0_0)) (View.ld mk (Rect.unit (s := S256x512) ![0, 128] S256x128.size inb_S256x512_S256x128_0_128)) (View.ld mk (Rect.unit (s := S256x512) ![0, 256] S256x128.size inb_S256x512_S256x128_0_256)) (View.ld mk (Rect.unit (s := S256x512) ![0, 384] S256x128.size inb_S256x512_S256x128_0_384))
    (View.ld mv (Rect.unit (s := S256x512) ![0, 0] S256x128.size inb_S256x512_S256x128_0_0)) (View.ld mv (Rect.unit (s := S256x512) ![0, 128] S256x128.size inb_S256x512_S256x128_0_128)) (View.ld mv (Rect.unit (s := S256x512) ![0, 256] S256x128.size inb_S256x512_S256x128_0_256)) (View.ld mv (Rect.unit (s := S256x512) ![0, 384] S256x128.size inb_S256x512_S256x128_0_384))

/-- The rows after the mixers. -/
def res (x : Vec Ideal S512x1024 .f32) (g : Vec Ideal S512x3072 .bf16) (y0 y1 q : Vec Ideal S512x512 .bf16) (wb : Vec Ideal S3x512x1024 .bf16)
    (wo : Vec Ideal S1024x1024 .bf16) (mk mv : Vec Ideal S256x512 .bf16) : Vec Ideal S512x1024 .f32 :=
  mixedPay (crossed q mk mv) y0 y1 (View.ld wb (Rect.unit (s := S3x512x1024) ![0, 0, 0] S1x512x1024.size inb_S3x512x1024_S1x512x1024_0_0_0)) (View.ld wb (Rect.unit (s := S3x512x1024) ![1, 0, 0] S1x512x1024.size inb_S3x512x1024_S1x512x1024_1_0_0)) (View.ld wb (Rect.unit (s := S3x512x1024) ![2, 0, 0] S1x512x1024.size inb_S3x512x1024_S1x512x1024_2_0_0))
    (View.ld g (Rect.unit (s := S512x3072) ![0, 0] S512x1024.size inb_S512x3072_S512x1024_0_0)) (View.ld g (Rect.unit (s := S512x3072) ![0, 1024] S512x1024.size inb_S512x3072_S512x1024_0_1024)) (View.ld g (Rect.unit (s := S512x3072) ![0, 2048] S512x1024.size inb_S512x3072_S512x1024_0_2048)) x wo

/-- The feed-forward part's input. -/
def hid (x : Vec Ideal S512x1024 .f32) (g : Vec Ideal S512x3072 .bf16) (y0 y1 q : Vec Ideal S512x512 .bf16) (wb : Vec Ideal S3x512x1024 .bf16)
    (wo : Vec Ideal S1024x1024 .bf16) (nw : Vec Ideal S1x1024 .f32) (mk mv : Vec Ideal S256x512 .bf16) : Vec Ideal S512x1024 .bf16 :=
  k0_pay26 (F := Ideal) (res x g y0 y1 q wb wo mk mv) (k0_pay24 nw) (factor (crossed q mk mv) y0 y1 (View.ld wb (Rect.unit (s := S3x512x1024) ![0, 0, 0] S1x512x1024.size inb_S3x512x1024_S1x512x1024_0_0_0)) (View.ld wb (Rect.unit (s := S3x512x1024) ![1, 0, 0] S1x512x1024.size inb_S3x512x1024_S1x512x1024_1_0_0)) (View.ld wb (Rect.unit (s := S3x512x1024) ![2, 0, 0] S1x512x1024.size inb_S3x512x1024_S1x512x1024_2_0_0))
    (View.ld g (Rect.unit (s := S512x3072) ![0, 0] S512x1024.size inb_S512x3072_S512x1024_0_0)) (View.ld g (Rect.unit (s := S512x3072) ![0, 1024] S512x1024.size inb_S512x3072_S512x1024_0_1024)) (View.ld g (Rect.unit (s := S512x3072) ![0, 2048] S512x1024.size inb_S512x3072_S512x1024_0_2048)) x wo)

/-- The output block of the input blocks and the memory's keys and values. -/
def block (x : Vec Ideal S512x1024 .f32) (g : Vec Ideal S512x3072 .bf16) (y0 y1 q : Vec Ideal S512x512 .bf16) (wb : Vec Ideal S3x512x1024 .bf16)
    (wo : Vec Ideal S1024x1024 .bf16) (nw : Vec Ideal S1x1024 .f32) (wu : Vec Ideal S1024x4096 .bf16) (wd : Vec Ideal S4096x1024 .bf16)
    (fw : Vec Ideal S1x1024 .f32) (mk mv : Vec Ideal S256x512 .bf16) : Vec Ideal S512x1024 .f32 :=
  k0_pay1 (F := Ideal) (hid x g y0 y1 q wb wo nw mk mv)
    (k0_pay27 (res x g y0 y1 q wb wo mk mv) (k0_pay24 nw) (factor (crossed q mk mv) y0 y1 (View.ld wb (Rect.unit (s := S3x512x1024) ![0, 0, 0] S1x512x1024.size inb_S3x512x1024_S1x512x1024_0_0_0)) (View.ld wb (Rect.unit (s := S3x512x1024) ![1, 0, 0] S1x512x1024.size inb_S3x512x1024_S1x512x1024_1_0_0)) (View.ld wb (Rect.unit (s := S3x512x1024) ![2, 0, 0] S1x512x1024.size inb_S3x512x1024_S1x512x1024_2_0_0))
    (View.ld g (Rect.unit (s := S512x3072) ![0, 0] S512x1024.size inb_S512x3072_S512x1024_0_0)) (View.ld g (Rect.unit (s := S512x3072) ![0, 1024] S512x1024.size inb_S512x3072_S512x1024_0_1024)) (View.ld g (Rect.unit (s := S512x3072) ![0, 2048] S512x1024.size inb_S512x3072_S512x1024_0_2048)) x wo)
      (View.ld wu (Rect.unit (s := S1024x4096) ![0, 0] S1024x1024.size inb_S1024x4096_S1024x1024_0_0)) (View.ld wd (Rect.unit (s := S4096x1024) ![0, 0] S1024x1024.size inb_S4096x1024_S1024x1024_0_0))
      (View.ld wu (Rect.unit (s := S1024x4096) ![0, 1024] S1024x1024.size inb_S1024x4096_S1024x1024_0_1024)) (View.ld wd (Rect.unit (s := S4096x1024) ![1024, 0] S1024x1024.size inb_S4096x1024_S1024x1024_1024_0))
      (View.ld wu (Rect.unit (s := S1024x4096) ![0, 2048] S1024x1024.size inb_S1024x4096_S1024x1024_0_2048)) (View.ld wd (Rect.unit (s := S4096x1024) ![2048, 0] S1024x1024.size inb_S4096x1024_S1024x1024_2048_0)))
    (View.ld wu (Rect.unit (s := S1024x4096) ![0, 3072] S1024x1024.size inb_S1024x4096_S1024x1024_0_3072)) (View.ld wd (Rect.unit (s := S4096x1024) ![3072, 0] S1024x1024.size inb_S4096x1024_S1024x1024_3072_0)) fw

section Cases
variable (c : Dev nD) (i : grid0.Coords) (arg1 : Memref sig .tc .vmem S512x1024 .f32) (harg1 : arg1.IsWhole)
  (arg2 : Memref sig .tc .vmem S512x3072 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S1024x1024 .bf16) (harg8 : arg8.IsWhole)
  (arg9 : Memref sig .tc .vmem S3x512x1024 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1024x4096 .bf16) (harg12 : arg12.IsWhole)
  (arg13 : Memref sig .tc .vmem S4096x1024 .bf16) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S256x512 .bf16) (harg16 : arg16.IsWhole)
  (arg17 : Memref sig .tc .vmem S256x512 .bf16) (harg17 : arg17.IsWhole)
  (x0 : Vec Ideal S512x1024 .f32) (x1 : Vec Ideal S512x3072 .bf16) (x2 : Vec Ideal S512x512 .bf16) (x3 : Vec Ideal S512x512 .bf16) (x4 : Vec Ideal S512x512 .bf16) (x5 : Vec Ideal S256x1024 .f32) (x6 : Vec Ideal S1x1024 .f32) (x7 : Vec Ideal S1024x1024 .bf16) (x8 : Vec Ideal S3x512x1024 .bf16) (x9 : Vec Ideal S1024x1024 .bf16) (x10 : Vec Ideal S1x1024 .f32) (x11 : Vec Ideal S1024x4096 .bf16) (x12 : Vec Ideal S4096x1024 .bf16) (x13 : Vec Ideal S1x1024 .f32)

/-- At a point that fills the scratch, the output block is that of the memory's keys and values just computed. -/
theorem out_A (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13
      = block x0 x1 x2 x3 x4 x8 x9 x10 x11 x12 x13 (k0_pay3 (F := Ideal) x5 x6 x7) (k0_pay4 (F := Ideal) x5 x6 x7) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x512) hz, View.ld_unit_zero (S := S512x1024) hz, View.ld_unit_zero (S := S1024x1024) hz, View.ld_unit_zero (S := S1x1024) hz, View.ld_unit_zero (S := S256x1024) hz,
    View.readCov_fill (s := S256x512) (off := ![0, 0]) _ _ _ _ _ (congrFun hz)]
  rfl

/-- At any other point, it is that of the keys and values the point before left. -/
theorem out_B (hc0 : ¬cond0_0 i) (mk mv : Vec Ideal S256x512 .bf16) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 mk mv
      = block x0 x1 x2 x3 x4 x8 x9 x10 x11 x12 x13 mk mv := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 mk mv)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S256x1024) hz]
  rfl

/-- A point that fills the scratch leaves the memory's keys. -/
theorem sc_A_0 (hc0 : cond0_0 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 = k0_pay3 (F := Ideal) x5 x6 x7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x512) hz, View.ld_unit_zero (S := S512x1024) hz, View.ld_unit_zero (S := S1024x1024) hz, View.ld_unit_zero (S := S1x1024) hz, View.ld_unit_zero (S := S256x1024) hz]

/-- … and the memory's values. -/
theorem sc_A_1 (hc0 : cond0_0 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 = k0_pay4 (F := Ideal) x5 x6 x7 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x512) hz, View.ld_unit_zero (S := S512x1024) hz, View.ld_unit_zero (S := S1024x1024) hz, View.ld_unit_zero (S := S1x1024) hz, View.ld_unit_zero (S := S256x1024) hz]

end Cases

/-- A run of columns of a rank-two array, read at an index. -/
theorem ld_cols {a b n : ℕ} {e : EltTy} (x : Vec Ideal ⟨2, ![a, b]⟩ e) (o : ℕ) (inb : ∀ k, (![0, o] : Fin 2 → ℕ) k + (![a, n] : Fin 2 → ℕ) k ≤ (⟨2, ![a, b]⟩ : Shape).size k)
    (r : Fin a) (l : Fin n) (h : o + l.val < b) : View.ld x (Rect.unit (s := ⟨2, ![a, b]⟩) ![0, o] ![a, n] inb) (ix2 r l) = x (ix2 r ⟨o + l.val, h⟩) := by
  rw [View.ld_apply]; congr 1; funext k; apply Fin.ext; fin_cases k <;> simp [Rect.emb_apply, Rect.unit]

/-- A run of rows of a rank-two array, read at an index. -/
theorem ld_rows {a b n : ℕ} {e : EltTy} (x : Vec Ideal ⟨2, ![a, b]⟩ e) (o : ℕ) (inb : ∀ k, (![o, 0] : Fin 2 → ℕ) k + (![n, b] : Fin 2 → ℕ) k ≤ (⟨2, ![a, b]⟩ : Shape).size k)
    (r : Fin n) (l : Fin b) (h : o + r.val < a) : View.ld x (Rect.unit (s := ⟨2, ![a, b]⟩) ![o, 0] ![n, b] inb) (ix2 r l) = x (ix2 ⟨o + r.val, h⟩ l) := by
  rw [View.ld_apply]; congr 1; funext k; apply Fin.ext; fin_cases k <;> simp [Rect.emb_apply, Rect.unit]

/-- One branch's matrix of the three. -/
theorem ld_branch (x : Vec Ideal S3x512x1024 .bf16) (o : ℕ) (ho : o < 3) (inb : ∀ k, (![o, 0, 0] : Fin 3 → ℕ) k + S1x512x1024.size k ≤ S3x512x1024.size k)
    (r : Fin 512) (l : Fin 1024) : View.ld x (Rect.unit (s := S3x512x1024) ![o, 0, 0] S1x512x1024.size inb) (ix3 0 r l) = x (ix3 ⟨o, ho⟩ r l) := by
  rw [View.ld_apply]; congr 1; funext k; apply Fin.ext; fin_cases k <;> simp [Rect.emb_apply, Rect.unit]

/-- The cross heads' rows. -/
theorem crossed_apply (q : Vec Ideal S512x512 .bf16) (mk mv : Vec Ideal S256x512 .bf16) (r l : Fin 512) :
    crossed q mk mv (ix2 r l) = heads (row q r) (mat mk) (mat mv) l := by
  have hl := l.isLt
  refine (mix_apply _ _ _ _ _ _ _ _ _ _ _ _ r l).trans ?_
  unfold heads
  split_ifs with h1 h2 h3
  · congr 1
    · funext d; refine (ld_cols q 0 _ r d (by omega)).trans ?_; congr 2; apply Fin.ext; dsimp only; omega
    · funext j d; refine (ld_cols mk 0 _ j d (by omega)).trans ?_; congr 2; apply Fin.ext; dsimp only; omega
    · funext j; refine (ld_cols mv 0 _ j _ (by dsimp only; omega)).trans ?_; congr 2; apply Fin.ext; dsimp only; omega
  · congr 1
    · funext d; refine (ld_cols q 128 _ r d (by omega)).trans ?_; congr 2; apply Fin.ext; dsimp only; omega
    · funext j d; refine (ld_cols mk 128 _ j d (by omega)).trans ?_; congr 2; apply Fin.ext; dsimp only; omega
    · funext j; refine (ld_cols mv 128 _ j _ (by dsimp only; omega)).trans ?_; congr 2; apply Fin.ext; dsimp only; omega
  · congr 1
    · funext d; refine (ld_cols q 256 _ r d (by omega)).trans ?_; congr 2; apply Fin.ext; dsimp only; omega
    · funext j d; refine (ld_cols mk 256 _ j d (by omega)).trans ?_; congr 2; apply Fin.ext; dsimp only; omega
    · funext j; refine (ld_cols mv 256 _ j _ (by dsimp only; omega)).trans ?_; congr 2; apply Fin.ext; dsimp only; omega
  · congr 1
    · funext d; refine (ld_cols q 384 _ r d (by omega)).trans ?_; congr 2; apply Fin.ext; dsimp only; omega
    · funext j d; refine (ld_cols mk 384 _ j d (by omega)).trans ?_; congr 2; apply Fin.ext; dsimp only; omega
    · funext j; refine (ld_cols mv 384 _ j _ (by dsimp only; omega)).trans ?_; congr 2; apply Fin.ext; dsimp only; omega

/-- The three gates of a row. -/
def gates (g : Fin 3072 → EReal) (n : Fin 3) (j : Fin 1024) : EReal := g ⟨1024 * n.val + j.val, by omega⟩

/-- The rows after the mixers. -/
theorem res_apply (x : Vec Ideal S512x1024 .f32) (g : Vec Ideal S512x3072 .bf16) (y0 y1 q : Vec Ideal S512x512 .bf16) (wb : Vec Ideal S3x512x1024 .bf16)
    (wo : Vec Ideal S1024x1024 .bf16) (mk mv : Vec Ideal S256x512 .bf16) (r : Fin 512) (l : Fin 1024) :
    res x g y0 y1 q wb wo mk mv (ix2 r l)
      = mixed (row x r) (merged (gates (row g r)) ![row y0 r, row y1 r, heads (row q r) (mat mk) (mat mv)] fun n i j => wb (ix3 n i j)) (mat wo) l := by
  refine (mixedPay_apply _ _ _ _ _ _ _ _ _ _ _ r l).trans ?_
  congr 1
  congr 1
  · funext n j
    fin_cases n
    · exact ld_cols g 0 _ r j (by omega)
    · exact ld_cols g 1024 _ r j (by omega)
    · exact ld_cols g 2048 _ r j (by omega)
  · funext n j
    fin_cases n
    · rfl
    · rfl
    · exact crossed_apply q mk mv r j
  · funext n i j
    fin_cases n
    · exact ld_branch wb 0 (by omega) _ i j
    · exact ld_branch wb 1 (by omega) _ i j
    · exact ld_branch wb 2 (by omega) _ i j

/-- The feed-forward part's input: the rows after the mixers, normed. -/
theorem hid_apply (x : Vec Ideal S512x1024 .f32) (g : Vec Ideal S512x3072 .bf16) (y0 y1 q : Vec Ideal S512x512 .bf16) (wb : Vec Ideal S3x512x1024 .bf16)
    (wo : Vec Ideal S1024x1024 .bf16) (nw : Vec Ideal S1x1024 .f32) (mk mv : Vec Ideal S256x512 .bf16) (r : Fin 512) (l : Fin 1024) :
    hid x g y0 y1 q wb wo nw mk mv (ix2 r l) = rms (row (res x g y0 y1 q wb wo mk mv) r) (row nw 0) l := by
  refine (pay26_apply _ _ _ r l).trans ?_
  rw [factor_apply]
  rfl

/-- THE OUTPUT BLOCK'S ROWS: the feed-forward part over the rows after the mixers, and the closing norm. -/
theorem block_apply (x : Vec Ideal S512x1024 .f32) (g : Vec Ideal S512x3072 .bf16) (y0 y1 q : Vec Ideal S512x512 .bf16) (wb : Vec Ideal S3x512x1024 .bf16)
    (wo : Vec Ideal S1024x1024 .bf16) (nw : Vec Ideal S1x1024 .f32) (wu : Vec Ideal S1024x4096 .bf16) (wd : Vec Ideal S4096x1024 .bf16)
    (fw : Vec Ideal S1x1024 .f32) (mk mv : Vec Ideal S256x512 .bf16) (r : Fin 512) (l : Fin 1024) :
    block x g y0 y1 q wb wo nw wu wd fw mk mv (ix2 r l)
      = rms (fed (mixed (row x r) (merged (gates (row g r)) ![row y0 r, row y1 r, heads (row q r) (mat mk) (mat mv)] fun n i j => wb (ix3 n i j)) (mat wo))
          (row nw 0) (mat wu) (mat wd)) (row fw 0) l := by
  refine (pay1_apply _ _ _ _ _ r l).trans ?_
  have e : mixed (row x r) (merged (gates (row g r)) ![row y0 r, row y1 r, heads (row q r) (mat mk) (mat mv)] fun n i j => wb (ix3 n i j)) (mat wo)
      = row (res x g y0 y1 q wb wo mk mv) r := funext fun j => (res_apply x g y0 y1 q wb wo mk mv r j).symm
  rw [e]
  congr 1
  funext j
  rw [pay27_apply]
  unfold fed ffn dot
  have eh : ∀ k, row (hid x g y0 y1 q wb wo nw mk mv) r k = rms (row (res x g y0 y1 q wb wo mk mv) r) (row nw 0) k := fun k => hid_apply x g y0 y1 q wb wo nw mk mv r k
  have eh' : ∀ k, row (k0_pay26 (F := Ideal) (res x g y0 y1 q wb wo mk mv) (k0_pay24 nw) (factor (crossed q mk mv) y0 y1 (View.ld wb (Rect.unit (s := S3x512x1024) ![0, 0, 0] S1x512x1024.size inb_S3x512x1024_S1x512x1024_0_0_0)) (View.ld wb (Rect.unit (s := S3x512x1024) ![1, 0, 0] S1x512x1024.size inb_S3x512x1024_S1x512x1024_1_0_0)) (View.ld wb (Rect.unit (s := S3x512x1024) ![2, 0, 0] S1x512x1024.size inb_S3x512x1024_S1x512x1024_2_0_0))
    (View.ld g (Rect.unit (s := S512x3072) ![0, 0] S512x1024.size inb_S512x3072_S512x1024_0_0)) (View.ld g (Rect.unit (s := S512x3072) ![0, 1024] S512x1024.size inb_S512x3072_S512x1024_0_1024)) (View.ld g (Rect.unit (s := S512x3072) ![0, 2048] S512x1024.size inb_S512x3072_S512x1024_0_2048)) x wo)) r k = rms (row (res x g y0 y1 q wb wo mk mv) r) (row nw 0) k :=
    fun k => hid_apply x g y0 y1 q wb wo nw mk mv r k
  simp only [eh, eh']
  congr 1
  · congr 1
    · congr 1
      · congr 1
        refine Finset.sum_congr rfl fun f _ => ?_
        rw [ld_rows wd 0 _ f j (by omega)]
        congr 2
        exact Finset.sum_congr rfl fun k _ => congrArg _ (ld_cols wu 0 _ k f (by omega))
      · refine Finset.sum_congr rfl fun f _ => ?_
        rw [ld_rows wd 1024 _ f j (by omega)]
        congr 2
        exact Finset.sum_congr rfl fun k _ => congrArg _ (ld_cols wu 1024 _ k f (by omega))
    · refine Finset.sum_congr rfl fun f _ => ?_
      rw [ld_rows wd 2048 _ f j (by omega)]
      congr 2
      exact Finset.sum_congr rfl fun k _ => congrArg _ (ld_cols wu 2048 _ k f (by omega))
  · refine Finset.sum_congr rfl fun f _ => ?_
    rw [ld_rows wd 3072 _ f j (by omega)]
    congr 2
    exact Finset.sum_congr rfl fun k _ => congrArg _ (ld_cols wu 3072 _ k f (by omega))

end Cert.MergeIdeal.Hand

end
-- ==== Proof.MergeRun.lean ====
/-
  The merge kernel's result array: the points' output blocks put together, one row of the layer's result per index.
-/
module

public import proofs.«01_k».proof.Proof.MergeBlock
public import Idealize.ShloMosaic.Lib.StableHlo.ReadAt

@[expose] public section

set_option maxRecDepth 16384

noncomputable section

namespace Cert.MergeIdeal.Hand

open Cert.MergeIdeal Cert.MergeIdeal.Gen Idealize.ShloMosaic Idealize.ShloMosaic.TcCoe Idealize.SL.Sem Cert.Softmax Cert.MergeMath

variable (m : (ℓ : Loc nD τ sig) → Buf (Elt Ideal) ℓ) (c : Dev nD)

/-- The residual stream. -/
abbrev aX : Vec Ideal S32768x1024 .f32 := m (c.tc.loc main_arg0)

/-- The projected columns. -/
abbrev aP : Vec Ideal S32768x6400 .bf16 := m (c.tc.loc main_arg1)

/-- The first branch's output. -/
abbrev aY0 : Vec Ideal S32768x512 .bf16 := m (c.tc.loc main_arg2)

/-- The second branch's output. -/
abbrev aY1 : Vec Ideal S32768x512 .bf16 := m (c.tc.loc main_arg3)

/-- The memory tokens. -/
abbrev aM : Vec Ideal S4096x1024 .f32 := m (c.tc.loc main_arg4)

/-- The memory norm's weights. -/
abbrev aMw : Vec Ideal S1x1024 .f32 := m (c.tc.loc main_arg5)

/-- The memory's key and value weights. -/
abbrev aKv : Vec Ideal S1x1024x1024 .f32 := m (c.tc.loc main_arg6)

/-- The branches' weights. -/
abbrev aWb : Vec Ideal S1x3x512x1024 .f32 := m (c.tc.loc main_arg7)

/-- The output weights. -/
abbrev aWo : Vec Ideal S1x1024x1024 .f32 := m (c.tc.loc main_arg8)

/-- The feed-forward norm's weights. -/
abbrev aNw : Vec Ideal S1x1024 .f32 := m (c.tc.loc main_arg9)

/-- The up weights. -/
abbrev aWu : Vec Ideal S1x1024x4096 .f32 := m (c.tc.loc main_arg10)

/-- The down weights. -/
abbrev aWd : Vec Ideal S1x4096x1024 .f32 := m (c.tc.loc main_arg11)

/-- The closing norm's weights. -/
abbrev aFw : Vec Ideal S1024 .f32 := m (c.tc.loc main_arg12)

/-- The blocks the windows name at a point: the point's own rows, its batch's memory, the whole weights. -/
theorem index_facts : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 11) ∧ (win0_5.index t 0 = t.val / 4 ∧ win0_5.index t 1 = 0)
    ∧ (win0_14.index t 0 = t.val ∧ win0_14.index t 1 = 0) := by
  decide +kernel

/-- The weights' windows name the whole array at every point. -/
theorem index_whole : ∀ t : Fin grid0.N,
    (∀ a, win0_6.index t a = 0) ∧ (∀ a, win0_7.index t a = 0) ∧ (∀ a, win0_8.index t a = 0) ∧ (∀ a, win0_9.index t a = 0)
    ∧ (∀ a, win0_10.index t a = 0) ∧ (∀ a, win0_11.index t a = 0) ∧ (∀ a, win0_12.index t a = 0) ∧ (∀ a, win0_13.index t a = 0) := by
  decide +kernel

/-- What the window's array holds after the host operations: the argument, its leading axis dropped or added. -/
theorem v1_apply (j : Fin 1024) : (V m c main_v1 : Vec Ideal S1x1024 .f32) (ix2 0 j) = aMw m c (ix2 0 j) := by
  unfold V
  after_reads_at

/-- What the window's array holds after the host operations: the argument, its leading axis dropped or added. -/
theorem v3_apply (i : Fin 1024) (j : Fin 1024) : (V m c main_v3 : Vec Ideal S1024x1024 .bf16) (ix2 i j) = aKv m c (ix3 0 i j) := by
  unfold V
  after_reads_at

/-- What the window's array holds after the host operations: the argument, its leading axis dropped or added. -/
theorem v5_apply (n : Fin 3) (i : Fin 512) (j : Fin 1024) : (V m c main_v5 : Vec Ideal S3x512x1024 .bf16) (ix3 n i j) = aWb m c (ix4 0 n i j) := by
  unfold V
  after_reads_at

/-- What the window's array holds after the host operations: the argument, its leading axis dropped or added. -/
theorem v7_apply (i : Fin 1024) (j : Fin 1024) : (V m c main_v7 : Vec Ideal S1024x1024 .bf16) (ix2 i j) = aWo m c (ix3 0 i j) := by
  unfold V
  after_reads_at

/-- What the window's array holds after the host operations: the argument, its leading axis dropped or added. -/
theorem v9_apply (j : Fin 1024) : (V m c main_v9 : Vec Ideal S1x1024 .f32) (ix2 0 j) = aNw m c (ix2 0 j) := by
  unfold V
  after_reads_at

/-- What the window's array holds after the host operations: the argument, its leading axis dropped or added. -/
theorem v11_apply (i : Fin 1024) (j : Fin 4096) : (V m c main_v11 : Vec Ideal S1024x4096 .bf16) (ix2 i j) = aWu m c (ix3 0 i j) := by
  unfold V
  after_reads_at

/-- What the window's array holds after the host operations: the argument, its leading axis dropped or added. -/
theorem v13_apply (i : Fin 4096) (j : Fin 1024) : (V m c main_v13 : Vec Ideal S4096x1024 .bf16) (ix2 i j) = aWd m c (ix3 0 i j) := by
  unfold V
  after_reads_at

/-- What the window's array holds after the host operations: the argument, its leading axis dropped or added. -/
theorem v14_apply (j : Fin 1024) : (V m c main_v14 : Vec Ideal S1x1024 .f32) (ix2 0 j) = aFw m c (ix1 j) := by
  unfold V
  after_reads_at

/-- A point's residual rows. -/
theorem x_apply (t : Fin cfg0.N) (r : Fin 512) (l : Fin 1024) :
    (iblk m c 0 t : Vec Ideal S512x1024 .f32) (ix2 r l)
      = aX m c (ix2 ⟨t.val * 512 + r.val, by have := t.isLt; have : cfg0.N = 64 := N_0; omega⟩ l) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 1024 + 1 * l.val = l.val; rw [hi.2]; omega

/-- A point's gate columns. -/
theorem g_apply (t : Fin cfg0.N) (r : Fin 512) (l : Fin 3072) :
    (X0_1 m c t : Vec Ideal S512x3072 .bf16) (ix2 r l)
      = aP m c (ix2 ⟨t.val * 512 + r.val, by have := t.isLt; have : cfg0.N = 64 := N_0; omega⟩ ⟨l.val, by omega⟩) := by
  have hi := (index_facts t).2.1
  unfold X0_1 Pipeline.Window.fill
  rw [dif_pos (moved0_1 t _)]
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [hi.1]; omega
  | ⟨1, _⟩ => show win0_1.index t 1 * 3072 + 1 * l.val = l.val; rw [hi.2]; omega

/-- A point's first branch's rows. -/
theorem y0_apply (t : Fin cfg0.N) (r : Fin 512) (l : Fin 512) :
    (iblk m c 2 t : Vec Ideal S512x512 .bf16) (ix2 r l)
      = aY0 m c (ix2 ⟨t.val * 512 + r.val, by have := t.isLt; have : cfg0.N = 64 := N_0; omega⟩ l) := by
  have hi := (index_facts t).2.2.1
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = t.val * 512 + r.val; rw [hi.1]; omega
  | ⟨1, _⟩ => show win0_2.index t 1 * 512 + 1 * l.val = l.val; rw [hi.2]; omega

/-- A point's second branch's rows. -/
theorem y1_apply (t : Fin cfg0.N) (r : Fin 512) (l : Fin 512) :
    (iblk m c 3 t : Vec Ideal S512x512 .bf16) (ix2 r l)
      = aY1 m c (ix2 ⟨t.val * 512 + r.val, by have := t.isLt; have : cfg0.N = 64 := N_0; omega⟩ l) := by
  have hi := (index_facts t).2.2.2.1
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = t.val * 512 + r.val; rw [hi.1]; omega
  | ⟨1, _⟩ => show win0_3.index t 1 * 512 + 1 * l.val = l.val; rw [hi.2]; omega

/-- A point's cross queries. -/
theorem q_apply (t : Fin cfg0.N) (r : Fin 512) (l : Fin 512) :
    (X0_4 m c t : Vec Ideal S512x512 .bf16) (ix2 r l)
      = aP m c (ix2 ⟨t.val * 512 + r.val, by have := t.isLt; have : cfg0.N = 64 := N_0; omega⟩ ⟨5632 + l.val, by omega⟩) := by
  have hi := (index_facts t).2.2.2.2.1
  unfold X0_4 Pipeline.Window.fill
  rw [dif_pos (moved0_4 t _)]
  unfold iblk
  rw [View.read_apply]
  show V m c main_arg1 _ = m (c.tc.loc main_arg1) _
  rw [V_main_arg1]
  congr 1
  funext a
  apply Fin.ext
  match a with
  | ⟨0, _⟩ => show win0_4.index t 0 * 512 + 1 * r.val = t.val * 512 + r.val; rw [hi.1]; omega
  | ⟨1, _⟩ => show win0_4.index t 1 * 512 + 1 * l.val = 5632 + l.val; rw [hi.2]; omega

/-- A point's batch's memory tokens. -/
theorem mem_apply (t : Fin cfg0.N) (r : Fin 256) (l : Fin 1024) :
    (iblk m c 5 t : Vec Ideal S256x1024 .f32) (ix2 r l)
      = aM m c (ix2 ⟨t.val / 4 * 256 + r.val, by have := t.isLt; have : cfg0.N = 64 := N_0; omega⟩ l) := by
  have hi := (index_facts t).2.2.2.2.2.1
  unfold iblk
  rw [View.read_apply]
  show V m c main_arg4 _ = m (c.tc.loc main_arg4) _
  rw [V_main_arg4]
  congr 1
  funext a
  apply Fin.ext
  match a with
  | ⟨0, _⟩ => show win0_5.index t 0 * 256 + 1 * r.val = t.val / 4 * 256 + r.val; rw [hi.1]; omega
  | ⟨1, _⟩ => show win0_5.index t 1 * 1024 + 1 * l.val = l.val; rw [hi.2]; omega

/-- The window's block is its whole array. -/
theorem mw_eq (t : Fin cfg0.N) : (iblk m c 6 t : Vec Ideal S1x1024 .f32) = V m c main_v1 := by
  have hi := (index_whole t).1
  funext i
  unfold iblk
  rw [View.read_apply]
  show V m c main_v1 _ = V m c main_v1 _
  congr 1
  funext a
  apply Fin.ext
  match a with
  | ⟨0, _⟩ => show win0_6.index t 0 * 1 + 1 * (i 0).val = (i 0).val; rw [hi]; omega
  | ⟨1, _⟩ => show win0_6.index t 1 * 1024 + 1 * (i 1).val = (i 1).val; rw [hi]; omega

/-- The window's block is its whole array. -/
theorem wkv_eq (t : Fin cfg0.N) : (iblk m c 7 t : Vec Ideal S1024x1024 .bf16) = V m c main_v3 := by
  have hi := (index_whole t).2.1
  funext i
  unfold iblk
  rw [View.read_apply]
  show V m c main_v3 _ = V m c main_v3 _
  congr 1
  funext a
  apply Fin.ext
  match a with
  | ⟨0, _⟩ => show win0_7.index t 0 * 1024 + 1 * (i 0).val = (i 0).val; rw [hi]; omega
  | ⟨1, _⟩ => show win0_7.index t 1 * 1024 + 1 * (i 1).val = (i 1).val; rw [hi]; omega

/-- The window's block is its whole array. -/
theorem wb_eq (t : Fin cfg0.N) : (iblk m c 8 t : Vec Ideal S3x512x1024 .bf16) = V m c main_v5 := by
  have hi := (index_whole t).2.2.1
  funext i
  unfold iblk
  rw [View.read_apply]
  show V m c main_v5 _ = V m c main_v5 _
  congr 1
  funext a
  apply Fin.ext
  match a with
  | ⟨0, _⟩ => show win0_8.index t 0 * 3 + 1 * (i 0).val = (i 0).val; rw [hi]; omega
  | ⟨1, _⟩ => show win0_8.index t 1 * 512 + 1 * (i 1).val = (i 1).val; rw [hi]; omega
  | ⟨2, _⟩ => show win0_8.index t 2 * 1024 + 1 * (i 2).val = (i 2).val; rw [hi]; omega

/-- The window's block is its whole array. -/
theorem wo_eq (t : Fin cfg0.N) : (iblk m c 9 t : Vec Ideal S1024x1024 .bf16) = V m c main_v7 := by
  have hi := (index_whole t).2.2.2.1
  funext i
  unfold iblk
  rw [View.read_apply]
  show V m c main_v7 _ = V m c main_v7 _
  congr 1
  funext a
  apply Fin.ext
  match a with
  | ⟨0, _⟩ => show win0_9.index t 0 * 1024 + 1 * (i 0).val = (i 0).val; rw [hi]; omega
  | ⟨1, _⟩ => show win0_9.index t 1 * 1024 + 1 * (i 1).val = (i 1).val; rw [hi]; omega

/-- The window's block is its whole array. -/
theorem nw_eq (t : Fin cfg0.N) : (iblk m c 10 t : Vec Ideal S1x1024 .f32) = V m c main_v9 := by
  have hi := (index_whole t).2.2.2.2.1
  funext i
  unfold iblk
  rw [View.read_apply]
  show V m c main_v9 _ = V m c main_v9 _
  congr 1
  funext a
  apply Fin.ext
  match a with
  | ⟨0, _⟩ => show win0_10.index t 0 * 1 + 1 * (i 0).val = (i 0).val; rw [hi]; omega
  | ⟨1, _⟩ => show win0_10.index t 1 * 1024 + 1 * (i 1).val = (i 1).val; rw [hi]; omega

/-- The window's block is its whole array. -/
theorem wu_eq (t : Fin cfg0.N) : (iblk m c 11 t : Vec Ideal S1024x4096 .bf16) = V m c main_v11 := by
  have hi := (index_whole t).2.2.2.2.2.1
  funext i
  unfold iblk
  rw [View.read_apply]
  show V m c main_v11 _ = V m c main_v11 _
  congr 1
  funext a
  apply Fin.ext
  match a with
  | ⟨0, _⟩ => show win0_11.index t 0 * 1024 + 1 * (i 0).val = (i 0).val; rw [hi]; omega
  | ⟨1, _⟩ => show win0_11.index t 1 * 4096 + 1 * (i 1).val = (i 1).val; rw [hi]; omega

/-- The window's block is its whole array. -/
theorem wd_eq (t : Fin cfg0.N) : (iblk m c 12 t : Vec Ideal S4096x1024 .bf16) = V m c main_v13 := by
  have hi := (index_whole t).2.2.2.2.2.2.1
  funext i
  unfold iblk
  rw [View.read_apply]
  show V m c main_v13 _ = V m c main_v13 _
  congr 1
  funext a
  apply Fin.ext
  match a with
  | ⟨0, _⟩ => show win0_12.index t 0 * 4096 + 1 * (i 0).val = (i 0).val; rw [hi]; omega
  | ⟨1, _⟩ => show win0_12.index t 1 * 1024 + 1 * (i 1).val = (i 1).val; rw [hi]; omega

/-- The window's block is its whole array. -/
theorem fw_eq (t : Fin cfg0.N) : (iblk m c 13 t : Vec Ideal S1x1024 .f32) = V m c main_v14 := by
  have hi := (index_whole t).2.2.2.2.2.2.2
  funext i
  unfold iblk
  rw [View.read_apply]
  show V m c main_v14 _ = V m c main_v14 _
  congr 1
  funext a
  apply Fin.ext
  match a with
  | ⟨0, _⟩ => show win0_13.index t 0 * 1 + 1 * (i 0).val = (i 0).val; rw [hi]; omega
  | ⟨1, _⟩ => show win0_13.index t 1 * 1024 + 1 * (i 1).val = (i 1).val; rw [hi]; omega

/-- Every index of a rank-two array is a pair. -/
theorem eq_ix2 {a b : ℕ} (i : (⟨2, ![a, b]⟩ : Shape).Idx) : i = ix2 ⟨(i 0).val, (i 0).isLt⟩ ⟨(i 1).val, (i 1).isLt⟩ :=
  funext fun a => by fin_cases a <;> rfl

/-- Points of one batch read the same memory tokens. -/
theorem mem_same (t t' : Fin cfg0.N) (h : t.val / 4 = t'.val / 4) : (iblk m c 5 t : Vec Ideal S256x1024 .f32) = iblk m c 5 t' := by
  funext i
  obtain ⟨s, l, rfl⟩ : ∃ (s : Fin 256) (l : Fin 1024), i = ix2 s l := ⟨_, _, eq_ix2 i⟩
  rw [mem_apply m c t, mem_apply m c t']; congr 2; apply Fin.ext; dsimp only; rw [h]

/-- The memory's keys at a point. -/
def keys (t : Fin cfg0.N) : Vec Ideal S256x512 .bf16 := k0_pay3 (F := Ideal) (iblk m c 5 t) (V m c main_v1) (V m c main_v3)

/-- The memory's values at a point. -/
def vals (t : Fin cfg0.N) : Vec Ideal S256x512 .bf16 := k0_pay4 (F := Ideal) (iblk m c 5 t) (V m c main_v1) (V m c main_v3)

/-- What point `t` leaves, from its own blocks: the output block, the memory's keys and values. -/
def left (t : Fin cfg0.N) : Vec Ideal S512x1024 .f32 × Vec Ideal S256x512 .bf16 × Vec Ideal S256x512 .bf16 :=
  (block (iblk m c 0 t) (X0_1 m c t) (iblk m c 2 t) (iblk m c 3 t) (X0_4 m c t) (V m c main_v5) (V m c main_v7) (V m c main_v9) (V m c main_v11)
      (V m c main_v13) (V m c main_v14) (keys m c t) (vals m c t), keys m c t, vals m c t)

/-- Every point leaves what its own blocks give: a point that does not fill the scratch finds it filled from the same
    memory tokens. By induction on the point. -/
theorem outs_eq : ∀ (n : ℕ) (h : n < cfg0.N), outsAt0 m c n h = left m c ⟨n, h⟩
  | n, h => by
    by_cases h0 : n % 4 = 0
    · rw [outsAt0_A m c ⟨n, h⟩ h0, out_A, sc_A_0, sc_A_1, mw_eq, wkv_eq, wb_eq, wo_eq, nw_eq, wu_eq, wd_eq, fw_eq]
      rfl
    · have hp : n - 1 < cfg0.N := by omega
      have ih := outs_eq (n - 1) hp
      rw [outsAt0_B m c ⟨n, h⟩ h0]
      unfold sout0_B_0 sout0_B_1
      rw [out_B, wb_eq, wo_eq, nw_eq, wu_eq, wd_eq, fw_eq]
      dsimp only
      rw [ih]
      unfold left keys vals
      dsimp only
      rw [mem_same m c ⟨n - 1, hp⟩ ⟨n, h⟩ (by dsimp only; omega)]
termination_by n => n
decreasing_by omega

/-- The memory's keys and values of a row's batch: the normed memory tokens times the weights. -/
def kv (R : Fin 32768) (j : Fin 256) (l : Fin 1024) : EReal :=
  dot (rms (row (aM m c) ⟨R.val / 2048 * 256 + j.val, by omega⟩) (row (aMw m c) 0)) (mat3 (aKv m c)) l

/-- The keys at a point of the row's batch. -/
theorem keys_apply (t : Fin cfg0.N) (R : Fin 32768) (hR : R.val / 2048 = t.val / 4) (j : Fin 256) (l : Fin 512) :
    keys m c t (ix2 j l) = kv m c R j ⟨l.val, by omega⟩ := by
  refine (pay3_apply _ _ _ j l).trans ?_
  have h1 : row (V m c main_v1 : Vec Ideal S1x1024 .f32) 0 = row (aMw m c) 0 := funext fun k => v1_apply m c k
  have h2 : mat (V m c main_v3 : Vec Ideal S1024x1024 .bf16) = mat3 (aKv m c) := funext fun i => funext fun k => v3_apply m c i k
  have h3 : row (iblk m c 5 t : Vec Ideal S256x1024 .f32) j = row (aM m c) ⟨R.val / 2048 * 256 + j.val, by omega⟩ := funext fun k => by
    refine (mem_apply m c t j k).trans ?_
    simp only [hR]
  unfold kv
  exact congrArg₂ (fun f g => dot f g _) (congrArg₂ rms h3 h1) h2

/-- The values at a point of the row's batch. -/
theorem vals_apply (t : Fin cfg0.N) (R : Fin 32768) (hR : R.val / 2048 = t.val / 4) (j : Fin 256) (l : Fin 512) :
    vals m c t (ix2 j l) = kv m c R j ⟨512 + l.val, by omega⟩ := by
  refine (pay4_apply _ _ _ j l).trans ?_
  have h1 : row (V m c main_v1 : Vec Ideal S1x1024 .f32) 0 = row (aMw m c) 0 := funext fun k => v1_apply m c k
  have h2 : mat (V m c main_v3 : Vec Ideal S1024x1024 .bf16) = mat3 (aKv m c) := funext fun i => funext fun k => v3_apply m c i k
  have h3 : row (iblk m c 5 t : Vec Ideal S256x1024 .f32) j = row (aM m c) ⟨R.val / 2048 * 256 + j.val, by omega⟩ := funext fun k => by
    refine (mem_apply m c t j k).trans ?_
    simp only [hR]
  unfold kv
  exact congrArg₂ (fun f g => dot f g _) (congrArg₂ rms h3 h1) h2

/-- The row's value depends on the rows and matrices alone. -/
theorem rows_congr {x x' : Fin 1024 → EReal} {g g' : Fin 3072 → EReal} {y0 y0' y1 y1' q q' : Fin 512 → EReal} {mk mk' mv mv' : Fin 256 → Fin 512 → EReal}
    {wb wb' : Fin 3 → Fin 512 → Fin 1024 → EReal} {wo wo' : Fin 1024 → Fin 1024 → EReal} {nw nw' : Fin 1024 → EReal} {wu wu' : Fin 1024 → Fin 4096 → EReal}
    {wd wd' : Fin 4096 → Fin 1024 → EReal} {fw fw' : Fin 1024 → EReal} (hx : x = x') (hg : g = g') (h0 : y0 = y0') (h1 : y1 = y1') (hq : q = q') (hk : mk = mk')
    (hv : mv = mv') (hb : wb = wb') (ho : wo = wo') (hn : nw = nw') (hu : wu = wu') (hd : wd = wd') (hf : fw = fw') (l : Fin 1024) :
    rms (fed (mixed x (merged (gates g) ![y0, y1, heads q mk mv] wb) wo) nw wu wd) fw l
      = rms (fed (mixed x' (merged (gates g') ![y0', y1', heads q' mk' mv'] wb') wo') nw' wu' wd') fw' l := by
  subst hx hg h0 h1 hq hk hv hb ho hn hu hd hf
  rfl

/-- A row after the mixers. -/
def rowMixed (R : Fin 32768) : Fin 1024 → EReal :=
  mixed (row (aX m c) R)
    (merged (gates fun l => aP m c (ix2 R ⟨l.val, by omega⟩))
      ![row (aY0 m c) R, row (aY1 m c) R,
        heads (fun l => aP m c (ix2 R ⟨5632 + l.val, by omega⟩)) (fun j l => kv m c R j ⟨l.val, by omega⟩) (fun j l => kv m c R j ⟨512 + l.val, by omega⟩)]
      fun n i j => aWb m c (ix4 0 n i j)) (mat3 (aWo m c))

/-- The result array: each row the feed-forward part over the row after the mixers, and the closing norm. -/
def result : Vec Ideal S32768x1024 .f32 := fun i =>
  rms (fed (rowMixed m c ⟨(i 0).val, (i 0).isLt⟩) (row (aNw m c) 0) (mat3 (aWu m c)) (mat3 (aWd m c))) (fun j => aFw m c (ix1 j)) ⟨(i 1).val, (i 1).isLt⟩

/-- What a point writes back is its block of that array. -/
theorem flushed_eq (t : Fin cfg0.N) :
    (dats m 0 c).flushed 14 t = ((cfg0.win 14).blk t).view.read (Elt Ideal) (result m c) := by
  have hN : cfg0.N = 64 := N_0
  have ht := t.isLt
  have hi := (index_facts t).2.2.2.2.2.2
  rw [Value.flushed14, outs_eq]
  funext i
  obtain ⟨r, col, rfl⟩ : ∃ (r : Fin 512) (col : Fin 1024), i = ix2 r col := ⟨_, _, eq_ix2 i⟩
  rw [View.read_apply]
  have e : ((cfg0.win 14).blk t).view.emb (ix2 r col) = ix2 (⟨t.val * 512 + r.val, by omega⟩ : Fin 32768) col := by
    funext a
    apply Fin.ext
    match a with
    | ⟨0, _⟩ => show win0_14.index t 0 * 512 + 1 * r.val = _; rw [hi.1]; simp only [Nat.one_mul]; rfl
    | ⟨1, _⟩ => show win0_14.index t 1 * 1024 + 1 * col.val = _; rw [hi.2]; simp only [Nat.one_mul, Nat.zero_mul, Nat.zero_add]; rfl
  rw [e]
  refine (block_apply _ _ _ _ _ _ _ _ _ _ _ _ _ r col).trans ?_
  unfold result
  have hR : t.val * 512 + r.val < 32768 := by omega
  exact rows_congr (funext fun l => x_apply m c t r l) (funext fun l => g_apply m c t r l) (funext fun l => y0_apply m c t r l) (funext fun l => y1_apply m c t r l)
    (funext fun l => q_apply m c t r l) (funext fun j => funext fun l => keys_apply m c t ⟨t.val * 512 + r.val, hR⟩ (by dsimp only; omega) j l)
    (funext fun j => funext fun l => vals_apply m c t ⟨t.val * 512 + r.val, hR⟩ (by dsimp only; omega) j l)
    (funext fun n => funext fun i => funext fun j => v5_apply m c n i j) (funext fun i => funext fun j => v7_apply m c i j) (funext fun j => v9_apply m c j)
    (funext fun i => funext fun j => v11_apply m c i j) (funext fun i => funext fun j => v13_apply m c i j) (funext fun j => v14_apply m c j) col

/-- Every index lies in some point's block. -/
theorem cover (i : S32768x1024.Idx) : ∃ t : Fin cfg0.N, (cfg0.win 14).flush t = true ∧ i ∈ ((cfg0.win 14).blk t).view.set := by
  have hN : cfg0.N = 64 := N_0
  have h0 : (i 0 : Nat) < 32768 := (i 0).isLt
  have h1 : (i 1 : Nat) < 1024 := (i 1).isLt
  refine ⟨⟨(i 0).val / 512, by omega⟩, flush0_14 _, ?_⟩
  have hi := (index_facts ⟨(i 0).val / 512, by show _ < cfg0.N; omega⟩).2.2.2.2.2.2
  dsimp only at hi
  generalize ht : (⟨(i 0).val / 512, _⟩ : Fin cfg0.N) = t at hi ⊢
  show i ∈ ((View.whole main_v15).slice (win0_14.rect t)).set
  rw [View.set_slice_whole, Rect.mem_set_unit]
  intro a
  match a with
  | ⟨0, _⟩ => show win0_14.index t 0 * 512 ≤ (i 0 : Nat) ∧ (i 0 : Nat) < win0_14.index t 0 * 512 + 512
              rw [hi.1]; omega
  | ⟨1, _⟩ => show win0_14.index t 1 * 1024 ≤ (i 1 : Nat) ∧ (i 1 : Nat) < win0_14.index t 1 * 1024 + 1024
              rw [hi.2]; omega

/-- So the result array ends holding it. -/
theorem final_o : (dats m 0 c).arrAt 14 cfg0.N = result m c :=
  (dats m 0 c).arrAt_eq_of_cover 14 (result m c) (fun t _ => flushed_eq m c t) cover

end Cert.MergeIdeal.Hand

end
-- ==== Proof.MergeRef.lean ====
/-
  The merge's mathematics (`MergeRefIdeal`), read at an index, and its equality with the kernel's rows wherever the cross
  scores are finite.
-/
module

public import proofs.«01_k».proof.Proof.MergeRun
public import proofs.«01_k».proof.Proof.Gen.MergeRefIdeal.Read

@[expose] public section

set_option maxRecDepth 16384

noncomputable section

namespace Cert.MergeRefIdeal.Hand

open Cert.MergeRefIdeal Cert.MergeRefIdeal.Gen Cert.MergeRefIdeal.Read Idealize.ShloMosaic Cert.Softmax Cert.MergeMath
open Cert.MergeIdeal.Hand (row mat mat3 gates)

variable (x0 : Vec Ideal S32768x1024 .f32) (x1 : Vec Ideal S32768x6400 .bf16) (x2 x3 : Vec Ideal S32768x512 .bf16) (x4 : Vec Ideal S4096x1024 .f32)
  (x5 : Vec Ideal S1x1024 .f32) (x6 : Vec Ideal S1x1024x1024 .f32) (x7 : Vec Ideal S1x3x512x1024 .f32) (x8 : Vec Ideal S1x1024x1024 .f32)
  (x9 : Vec Ideal S1x1024 .f32) (x10 : Vec Ideal S1x1024x4096 .f32) (x11 : Vec Ideal S1x4096x1024 .f32) (x12 : Vec Ideal S1024 .f32)

/-- The memory's keys and values. -/
theorem mkv_apply (r : Fin 4096) (l : Fin 1024) : val_main_v18 (F := Ideal) x4 x5 x6 (ix2 r l) = dot (rms (row x4 r) (row x5 0)) (mat3 x6) l := by
  unfold dot rms
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]

/-- The three branches' outputs of a row. -/
theorem y_apply (R : Fin 32768) (n : Fin 3) (j : Fin 512) :
    val_main_v47 (F := Ideal) x1 x2 x3 x4 x5 x6 (ix3 R n j) = (![row x2 R, row x3 R, row (val_main_v41 (F := Ideal) x1 x4 x5 x6) R] : Fin 3 → Fin 512 → EReal) n j := by
  unfold val_main_v47 val_main_v46
  generalize val_main_v41 (F := Ideal) x1 x4 x5 x6 = y
  fin_cases n
  all_goals
    pointwise [val_main_v45, val_main_v44, val_main_v43, val_main_v42]

/-- A gate. -/
theorem gate_apply (R : Fin 32768) (n : Fin 3) (j : Fin 1024) :
    val_main_v57 (F := Ideal) x1 (ix3 R n j) = gate (gates (fun l => x1 (ix2 R ⟨l.val, by omega⟩)) n j) := by
  unfold gate gates
  rw [val_main_v57_apply, val_main_v56_apply, val_main_v55_apply, val_main_v54_apply, val_main_v53_apply, val_main_v52_apply, val_main_v51_apply, val_main_v2_apply,
    val_main_v0_apply, val_main_cst_6_apply, val_main_cst_7_apply]
  show Ideal.div (Ideal.ofBits .f32 0x3F800000#32) (Ideal.ofBits .f32 0x3F800000#32 + Ideal.exp (-x1 _)) = Ideal.div 1 (1 + Ideal.exp (-x1 _))
  rw [show Ideal.ofBits .f32 0x3F800000#32 = (1 : EReal) by simp only [Ideal.ofBits, Ideal.ieee]; simp; rw [← EReal.coe_mul]; norm_num]
  congr 4
  have hR := R.isLt
  have hn := n.isLt
  have hj := j.isLt
  congr 1
  funext a; apply Fin.ext; fin_cases a
  · show ((R.val * 3 + n.val) * 1024 + j.val) / 3072 = R.val; omega
  · show ((R.val * 3 + n.val) * 1024 + j.val) % 3072 = 1024 * n.val + j.val; omega

/-- A branch through its matrix. -/
theorem branch_apply (R : Fin 32768) (n : Fin 3) (j : Fin 1024) :
    val_main_v50 (F := Ideal) x1 x2 x3 x4 x5 x6 x7 (ix3 R n j)
      = dot ((![row x2 R, row x3 R, row (val_main_v41 (F := Ideal) x1 x4 x5 x6) R] : Fin 3 → Fin 512 → EReal) n) (fun i j => x7 (ix4 0 n i j)) j := by
  unfold dot
  rw [val_main_v50_apply, val_main_v49_apply]
  refine Finset.sum_congr rfl fun k _ => ?_
  rw [mul_comm, ← y_apply x1 x2 x3 x4 x5 x6 R n k]
  congr 1
  · congr 1; funext a; fin_cases a <;> rfl
  · have hn := n.isLt
    have hj := j.isLt
    have hk : k.val < 512 := k.isLt
    rw [val_main_v48_apply]
    congr 1; funext a; apply Fin.ext; fin_cases a
    · rfl
    · show ((n.val * 512 + k.val) * 1024 + j.val) / 524288 % 3 = n.val; omega
    · show ((n.val * 512 + k.val) * 1024 + j.val) / 1024 % 512 = k.val; omega
    · show ((n.val * 512 + k.val) * 1024 + j.val) % 1024 = j.val; omega

/-- The gated sum of the branches. -/
theorem merged_apply (R : Fin 32768) (j : Fin 1024) :
    val_main_v59 (F := Ideal) x1 x2 x3 x4 x5 x6 x7 (ix2 R j)
      = merged (gates fun l => x1 (ix2 R ⟨l.val, by omega⟩)) ![row x2 R, row x3 R, row (val_main_v41 (F := Ideal) x1 x4 x5 x6) R] (fun n i j => x7 (ix4 0 n i j)) j := by
  rw [val_main_v59_apply]
  have e : ∀ n : Fin 3, val_main_v58 (F := Ideal) x1 x2 x3 x4 x5 x6 x7 (idx_main_v59 (ix2 R j) n)
      = gate (gates (fun l => x1 (ix2 R ⟨l.val, by omega⟩)) n j)
        * dot ((![row x2 R, row x3 R, row (val_main_v41 (F := Ideal) x1 x4 x5 x6) R] : Fin 3 → Fin 512 → EReal) n) (fun i j => x7 (ix4 0 n i j)) j := fun n => by
    rw [← gate_apply, ← branch_apply x1 x2 x3 x4 x5 x6 x7, val_main_v58_apply,
      show idx_main_v59 (ix2 R j) n = ix3 R n j from funext fun a => by fin_cases a <;> rfl]
    rfl
  rw [Finset.sum_congr rfl fun n _ => e n, Fin.sum_univ_three,
    show val_main_cst_8 (F := Ideal) (Shape.Idx.first h_S_) = (0 : EReal) from (val_main_cst_8_apply _).trans (by simp [Ideal.ofBits, Ideal.ieee]), zero_add]
  rfl

/-- The rows after the mixers. -/
theorem mixed_apply (R : Fin 32768) (j : Fin 1024) :
    val_main_v62 (F := Ideal) x0 x1 x2 x3 x4 x5 x6 x7 x8 (ix2 R j) = mixed (row x0 R) (row (val_main_v59 (F := Ideal) x1 x2 x3 x4 x5 x6 x7) R) (mat3 x8) j := by
  unfold mixed dot val_main_v62 val_main_v61
  generalize val_main_v59 (F := Ideal) x1 x2 x3 x4 x5 x6 x7 = y
  pointwise [val_main_v60]

/-- The rows normed for the feed-forward part. -/
theorem hid_apply (R : Fin 32768) (j : Fin 1024) :
    val_main_v76 (F := Ideal) x0 x1 x2 x3 x4 x5 x6 x7 x8 x9 (ix2 R j) = rms (row (val_main_v62 (F := Ideal) x0 x1 x2 x3 x4 x5 x6 x7 x8) R) (row x9 0) j := by
  unfold rms val_main_v76 val_main_v73 val_main_v72 val_main_v71 val_main_v70 val_main_v68 val_main_v66 val_main_v65 val_main_v64
  generalize val_main_v62 (F := Ideal) x0 x1 x2 x3 x4 x5 x6 x7 x8 = y
  pointwise [val_main_v75, val_main_v74, val_main_v63, val_main_v67, val_main_v69, val_main_cst_9, val_main_cst_10, val_main_cst_11]

/-- The rows after the feed-forward part. -/
theorem fed_apply (R : Fin 32768) (j : Fin 1024) :
    val_main_v83 (F := Ideal) x0 x1 x2 x3 x4 x5 x6 x7 x8 x9 x10 x11 (ix2 R j)
      = row (val_main_v62 (F := Ideal) x0 x1 x2 x3 x4 x5 x6 x7 x8) R j
        + ∑ f : Fin 4096, relu2 (dot (row (val_main_v76 (F := Ideal) x0 x1 x2 x3 x4 x5 x6 x7 x8 x9) R) (mat3 x10) f) * mat3 x11 f j := by
  unfold relu2 dot val_main_v83 val_main_v82 val_main_v80 val_main_v79 val_main_v78
  generalize val_main_v62 (F := Ideal) x0 x1 x2 x3 x4 x5 x6 x7 x8 = y
  generalize val_main_v76 (F := Ideal) x0 x1 x2 x3 x4 x5 x6 x7 x8 x9 = z
  pointwise [val_main_v81, val_main_v77, val_main_call0_v0, val_main_call0_cst]

/-- The closing norm. -/
theorem out_apply (R : Fin 32768) (j : Fin 1024) :
    val_main_v96 (F := Ideal) x0 x1 x2 x3 x4 x5 x6 x7 x8 x9 x10 x11 x12 (ix2 R j)
      = rms (row (val_main_v83 (F := Ideal) x0 x1 x2 x3 x4 x5 x6 x7 x8 x9 x10 x11) R) (fun j => x12 (ix1 j)) j := by
  unfold rms val_main_v96 val_main_v93 val_main_v92 val_main_v91 val_main_v90 val_main_v88 val_main_v86 val_main_v85 val_main_v84
  generalize val_main_v83 (F := Ideal) x0 x1 x2 x3 x4 x5 x6 x7 x8 x9 x10 x11 = y
  pointwise [val_main_v95, val_main_v94, val_main_v87, val_main_v89, val_main_cst_12, val_main_cst_13, val_main_cst_14]

/-- The cross scores: the query with the memory's key, over `√128`. -/
theorem score_apply (b : Fin 16) (h : Fin 4) (s : Fin 2048) (k : Fin 256) :
    val_main_v26 (F := Ideal) x1 x4 x5 x6 (ix4 b h s k)
      = (∑ d : Fin 128, x1 (ix2 ⟨b.val * 2048 + s.val, by omega⟩ ⟨5632 + (h.val * 128 + d.val), by omega⟩)
          * val_main_v18 (F := Ideal) x4 x5 x6 (ix2 ⟨b.val * 256 + k.val, by omega⟩ ⟨h.val * 128 + d.val, by omega⟩)) * (((Real.sqrt 128)⁻¹ : ℝ) : EReal) := by
  rw [val_main_v26_apply, val_main_v23_apply, val_main_v25_apply, val_main_v24_apply, val_main_cst_2_apply]
  show Ideal.div _ (Ideal.sqrt (Ideal.ofBits .f32 0x43000000#32)) = _
  have h2 : Ideal.ofBits .f32 0x43000000#32 = ((128 : ℝ) : EReal) := by
    simp only [Ideal.ofBits, Ideal.ieee]; simp; rw [← EReal.coe_mul]; norm_num
  rw [h2, Ideal.sqrt_coe, if_neg (by norm_num), Ideal.div_coe (Real.sqrt_ne_zero'.mpr (by norm_num)), one_div]
  congr 1
  refine Finset.sum_congr rfl fun d _ => ?_
  rw [val_main_v21_apply, val_main_v1_apply, val_main_v0_apply, val_main_v22_apply, val_main_v19_apply]
  have hd : d.val < 128 := d.isLt
  have hk : k.val < 256 := k.isLt
  show x1 _ * _ = x1 _ * _
  congr 2 <;> funext a <;> apply Fin.ext <;> fin_cases a
  · show (((b.val * 2048 + s.val) * 4 + h.val) * 128 + d.val) / 512 = b.val * 2048 + s.val; omega
  · show 5632 + (((b.val * 2048 + s.val) * 4 + h.val) * 128 + d.val) % 512 = 5632 + (h.val * 128 + d.val); omega
  · show (((b.val * 256 + k.val) * 4 + h.val) * 128 + d.val) / 512 = b.val * 256 + k.val; omega
  · show (((b.val * 256 + k.val) * 4 + h.val) * 128 + d.val) % 512 = h.val * 128 + d.val; omega

/-- The greatest score of a row. -/
theorem max_apply (b : Fin 16) (h : Fin 4) (s : Fin 2048) :
    val_main_v29 (F := Ideal) x1 x4 x5 x6 (ix3 b h s) = top fun k => val_main_v26 (F := Ideal) x1 x4 x5 x6 (ix4 b h s k) := by
  rw [val_main_v29_apply, val_main_v28_apply, val_main_cst_4_apply]
  show max (Ideal.ofBits .f32 0xFF800000#32) (val_main_v27 (F := Ideal) x1 x4 x5 x6 (ix3 b h s)) = _
  rw [ofBits_bot, max_eq_right bot_le]
  unfold val_main_v27
  generalize val_main_v26 (F := Ideal) x1 x4 x5 x6 = y
  pointwise
  unfold top
  rw [show val_main_cst_3 (F := Ideal) (Shape.Idx.first h_S_) = (⊥ : EReal) from (val_main_cst_3_apply _).trans ofBits_bot]

/-- The weights: each row's exponentials over their sum. -/
theorem weight_apply (b : Fin 16) (h : Fin 4) (s : Fin 2048) (k : Fin 256) :
    val_main_v37 (F := Ideal) x1 x4 x5 x6 (ix4 b h s k)
      = Ideal.div (Ideal.exp (val_main_v26 (F := Ideal) x1 x4 x5 x6 (ix4 b h s k) - top fun k => val_main_v26 (F := Ideal) x1 x4 x5 x6 (ix4 b h s k)))
          (∑ j, Ideal.exp (val_main_v26 (F := Ideal) x1 x4 x5 x6 (ix4 b h s j) - top fun k => val_main_v26 (F := Ideal) x1 x4 x5 x6 (ix4 b h s k))) := by
  have e : ∀ j : Fin 256, val_main_v33 (F := Ideal) x1 x4 x5 x6 (ix4 b h s j)
      = Ideal.exp (val_main_v26 (F := Ideal) x1 x4 x5 x6 (ix4 b h s j) - top fun k => val_main_v26 (F := Ideal) x1 x4 x5 x6 (ix4 b h s k)) := fun j => by
    rw [← max_apply, val_main_v33_apply, val_main_v32_apply, val_main_v31_apply, val_main_v30_apply,
      show idx_main_v30 (idx_main_v31 (ix4 b h s j)) = ix3 b h s from funext fun a => by fin_cases a <;> rfl]
    rfl
  rw [val_main_v37_apply, val_main_v36_apply, val_main_v35_apply, val_main_v34_apply, e,
    show val_main_cst_5 (F := Ideal) (Shape.Idx.first h_S_) = (0 : EReal) from (val_main_cst_5_apply _).trans (by simp [Ideal.ofBits, Ideal.ieee]), zero_add]
  refine congrArg (Ideal.div _) (Finset.sum_congr rfl fun j _ => ?_)
  rw [← e j]
  congr 1
  funext a; fin_cases a <;> rfl

/-- THE CROSS HEADS, at an index: where the queries and the memory's keys are finite, the kernel's. -/
theorem cross_apply (R : Fin 32768) (l : Fin 512)
    (hq : ∀ (r : Fin 32768) (l : Fin 512), ∃ y : ℝ, x1 (ix2 r ⟨5632 + l.val, by omega⟩) = y)
    (hk : ∀ (r : Fin 4096) (l : Fin 512), ∃ y : ℝ, val_main_v18 (F := Ideal) x4 x5 x6 (ix2 r ⟨l.val, by omega⟩) = y) :
    val_main_v41 (F := Ideal) x1 x4 x5 x6 (ix2 R l)
      = heads (fun l => x1 (ix2 R ⟨5632 + l.val, by omega⟩))
          (fun j l => val_main_v18 (F := Ideal) x4 x5 x6 (ix2 ⟨R.val / 2048 * 256 + j.val, by omega⟩ ⟨l.val, by omega⟩))
          (fun j l => val_main_v18 (F := Ideal) x4 x5 x6 (ix2 ⟨R.val / 2048 * 256 + j.val, by omega⟩ ⟨512 + l.val, by omega⟩)) l := by
  have hR := R.isLt
  have hl := l.isLt
  rw [val_main_v41_apply, val_main_v40_apply, val_main_v39_apply]
  obtain ⟨b, hb⟩ : ∃ b : Fin 16, b.val = R.val / 2048 := ⟨⟨R.val / 2048, by omega⟩, rfl⟩
  obtain ⟨s, hs⟩ : ∃ s : Fin 2048, s.val = R.val % 2048 := ⟨⟨R.val % 2048, by omega⟩, rfl⟩
  obtain ⟨h, hh⟩ : ∃ h : Fin 4, h.val = l.val / 128 := ⟨⟨l.val / 128, by omega⟩, rfl⟩
  have hw : ∀ k : Fin 256, ridx_main_v39 (idx_main_v40 (idx_main_v41 (ix2 R l))) k = ix4 b h s k := fun k => by
    funext a; apply Fin.ext; fin_cases a
    · show (R.val * 512 + l.val) / 1048576 = b.val; omega
    · show (R.val * 512 + l.val) / 128 % 4 = h.val; omega
    · show (R.val * 512 + l.val) / 512 % 2048 = s.val; omega
    · rfl
  have hv : ∀ k : Fin 256, val_main_v38 (F := Ideal) x4 x5 x6 (lidx_main_v39 (idx_main_v40 (idx_main_v41 (ix2 R l))) k)
      = val_main_v18 (F := Ideal) x4 x5 x6 (ix2 ⟨R.val / 2048 * 256 + k.val, by omega⟩ ⟨512 + l.val, by omega⟩) := fun k => by
    have hk' := k.isLt
    have e1 : (R.val * 512 + l.val) / 1048576 = b.val := by omega
    have e2 : (R.val * 512 + l.val) / 128 % 4 = h.val := by omega
    have e3 : (R.val * 512 + l.val) % 128 = l.val % 128 := by omega
    rw [val_main_v38_apply, val_main_v20_apply]
    congr 1; funext a; apply Fin.ext; fin_cases a
    · show (((((R.val * 512 + l.val) / 1048576 * 256 + k.val) * 4 + (R.val * 512 + l.val) / 128 % 4) * 128 + (R.val * 512 + l.val) % 128) / 512 : ℕ) = R.val / 2048 * 256 + k.val
      rw [e1, e2, e3]; omega
    · show 512 + ((((R.val * 512 + l.val) / 1048576 * 256 + k.val) * 4 + (R.val * 512 + l.val) / 128 % 4) * 128 + (R.val * 512 + l.val) % 128) % 512 = 512 + l.val
      rw [e1, e2, e3]; omega
  have hr : ∀ j : Fin 256, ∃ y : ℝ, (∑ d : Fin 128, x1 (ix2 R ⟨5632 + (l.val / 128 * 128 + d.val), by omega⟩)
      * val_main_v18 (F := Ideal) x4 x5 x6 (ix2 ⟨R.val / 2048 * 256 + j.val, by omega⟩ ⟨l.val / 128 * 128 + d.val, by omega⟩)) = y := fun j =>
    exists_sum_mul _ _ (fun d => hq R ⟨l.val / 128 * 128 + d.val, by omega⟩) fun d => hk ⟨R.val / 2048 * 256 + j.val, by omega⟩ ⟨l.val / 128 * 128 + d.val, by omega⟩
  choose r hr using hr
  have hsc : ∀ j : Fin 256, val_main_v26 (F := Ideal) x1 x4 x5 x6 (ix4 b h s j) = ((r j * scale * Real.log 2 : ℝ) : EReal) := fun j => by
    rw [score_apply, show r j * scale * Real.log 2 = r j * (Real.sqrt 128)⁻¹ by
      unfold scale; have : Real.log 2 ≠ 0 := (Real.log_pos (by norm_num)).ne'; field_simp, EReal.coe_mul, ← hr j]
    congr 1
    refine Finset.sum_congr rfl fun d _ => ?_
    have hd := d.isLt
    congr 2 <;> congr 1 <;> apply Fin.ext <;> dsimp only <;> omega
  unfold heads cross
  simp only [hr]
  rw [softmax_mean (by norm_num) _ (fun j => ((r j * scale * Real.log 2 : ℝ) : EReal)) _ (fun j => r j * scale) (fun j => (EReal.coe_mul _ _).symm) (fun _ => rfl)]
  refine Finset.sum_congr rfl fun k _ => ?_
  rw [hv k, hw k, weight_apply]
  simp only [hsc]

/-- THE RESULT, at an index: where the queries and the memory's keys are finite, the kernel's rows. -/
theorem value_apply (R : Fin 32768) (l : Fin 1024)
    (hq : ∀ (r : Fin 32768) (l : Fin 512), ∃ y : ℝ, x1 (ix2 r ⟨5632 + l.val, by omega⟩) = y)
    (hk : ∀ (r : Fin 4096) (l : Fin 512), ∃ y : ℝ, val_main_v18 (F := Ideal) x4 x5 x6 (ix2 r ⟨l.val, by omega⟩) = y) :
    val_main_v96 (F := Ideal) x0 x1 x2 x3 x4 x5 x6 x7 x8 x9 x10 x11 x12 (ix2 R l)
      = rms (fed (mixed (row x0 R) (merged (gates fun l => x1 (ix2 R ⟨l.val, by omega⟩))
            ![row x2 R, row x3 R, heads (fun l => x1 (ix2 R ⟨5632 + l.val, by omega⟩))
              (fun j l => dot (rms (row x4 ⟨R.val / 2048 * 256 + j.val, by omega⟩) (row x5 0)) (mat3 x6) ⟨l.val, by omega⟩)
              (fun j l => dot (rms (row x4 ⟨R.val / 2048 * 256 + j.val, by omega⟩) (row x5 0)) (mat3 x6) ⟨512 + l.val, by omega⟩)]
            fun n i j => x7 (ix4 0 n i j)) (mat3 x8)) (row x9 0) (mat3 x10) (mat3 x11)) (fun j => x12 (ix1 j)) l := by
  rw [out_apply]
  congr 1
  funext j
  rw [fed_eq]
  have e1 : row (val_main_v41 (F := Ideal) x1 x4 x5 x6) R = heads (fun l => x1 (ix2 R ⟨5632 + l.val, by omega⟩))
      (fun j l => dot (rms (row x4 ⟨R.val / 2048 * 256 + j.val, by omega⟩) (row x5 0)) (mat3 x6) ⟨l.val, by omega⟩)
      (fun j l => dot (rms (row x4 ⟨R.val / 2048 * 256 + j.val, by omega⟩) (row x5 0)) (mat3 x6) ⟨512 + l.val, by omega⟩) := funext fun l => by
    refine (cross_apply x1 x4 x5 x6 R l hq hk).trans ?_
    simp only [mkv_apply]
  have e2 : row (val_main_v59 (F := Ideal) x1 x2 x3 x4 x5 x6 x7) R = merged (gates fun l => x1 (ix2 R ⟨l.val, by omega⟩))
      ![row x2 R, row x3 R, row (val_main_v41 (F := Ideal) x1 x4 x5 x6) R] fun n i j => x7 (ix4 0 n i j) := funext fun j => merged_apply x1 x2 x3 x4 x5 x6 x7 R j
  have e3 : row (val_main_v62 (F := Ideal) x0 x1 x2 x3 x4 x5 x6 x7 x8) R = mixed (row x0 R) (row (val_main_v59 (F := Ideal) x1 x2 x3 x4 x5 x6 x7) R) (mat3 x8) :=
    funext fun j => mixed_apply x0 x1 x2 x3 x4 x5 x6 x7 x8 R j
  have e4 : row (val_main_v76 (F := Ideal) x0 x1 x2 x3 x4 x5 x6 x7 x8 x9) R = rms (row (val_main_v62 (F := Ideal) x0 x1 x2 x3 x4 x5 x6 x7 x8) R) (row x9 0) :=
    funext fun j => hid_apply x0 x1 x2 x3 x4 x5 x6 x7 x8 x9 R j
  refine (fed_apply x0 x1 x2 x3 x4 x5 x6 x7 x8 x9 x10 x11 R j).trans ?_
  rw [e4, e3, e2, e1]

end Cert.MergeRefIdeal.Hand

end
-- ==== Proof.MergeClaims.lean ====
/-
  The claims about the merge: its runs, its named constant, and the kernel's result array against the mathematics'.
-/
module

public import proofs.«01_k».proof.Defs
public import proofs.«01_k».proof.Proof.MergeRun
public import proofs.«01_k».proof.Proof.MergeRef
public import proofs.«01_k».proof.Proof.GqaClaims
public import proofs.«01_k».proof.Proof.Gen.Merge.Frame
public import proofs.«01_k».proof.Proof.Gen.MergeRefIdeal.Run
public import Idealize.ShloMosaic.Lib.Quiescent

@[expose] public section

set_option maxRecDepth 16384

noncomputable section

open Idealize.ShloMosaic Idealize.ShloMosaic.TcCoe Idealize.SL.Sem Cert.Softmax Cert.MergeMath

namespace Cert.Proof.MergeClaims

/-- The precondition's printed facts. -/
theorem preFacts : Cert.Pre_merge_finite.Facts where
  slices_S32768x6400_S32768x512_0_5632 := by decide
  bitsLt_bf16_f32 := by decide
  bcast_S_S32768x512 := by decide
  bcast_S_S1x1024 := by decide
  slices_S1x1024x1024_S1x1024x512_0_0_0 := by decide
  shapeCasts_S1x1024x512_S1024x512 := by decide
  bcast_S_S1024x512 := by decide

/-- The kernel runs, its arguments unchanged. -/
theorem frame_p : Cert.quiescent_Merge (hMerge := Cert.Merge.Gen.facts) := fun m ρ _ => Cert.Merge.Gen.frame m ρ

/-- Its idealization runs, its arguments unchanged. -/
theorem frame_pi : Cert.quiescent_MergeIdeal (hMergeIdeal := Cert.MergeIdeal.Gen.facts) := fun m ρ _ => Cert.MergeIdeal.Gen.frame m ρ

/-- The same under the precondition. -/
theorem frame_pi_pre : Cert.quiescent_MergeIdeal_pre_merge_finite (hMergeIdeal := Cert.MergeIdeal.Gen.facts) (hPre_merge_finite := preFacts) :=
  fun m ρ _ => Cert.MergeIdeal.Gen.frame m ρ

/-- The mathematics runs, its arguments unchanged. -/
theorem frame_ri : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The same under the precondition. -/
theorem frame_ri_pre : Cert.quiescent_MergeRefIdeal_pre_merge_finite (hMergeRefIdeal := Cert.MergeRefIdeal.Gen.facts) (hPre_merge_finite := preFacts) :=
  fun m ρ _ => frame_ri m ρ trivial

/-- The idealization's one rewrite: the score scale by its name, which stands for the constant's ideal value. -/
theorem preserves : Cert.preserves_Merge_MergeIdeal :=
  IdealRules.named_const.statement Cert.MergeIdeal.κ "x_scale" .f32 0x3E0293EE#32 (((Real.sqrt 128)⁻¹ * (Real.log 2)⁻¹ : ℝ) : EReal) rfl

/-- The norm of any row, with real weights, is a row of real numbers: of a row with an infinite entry every entry's norm is 0,
    its mean square being infinite. -/
theorem rms_real (x w : Fin 1024 → EReal) (hw : ∀ j, ∃ y : ℝ, w j = y) (j : Fin 1024) : ∃ y : ℝ, rms x w j = y := by
  choose b hb using hw
  have h1 : Ideal.ofBits .f32 0x44800000#32 = ((1024 : ℝ) : EReal) := by
    simp only [Ideal.ofBits, Ideal.ieee]; simp; rw [← EReal.coe_mul]; norm_num
  obtain ⟨e, he, h2⟩ : ∃ e : ℝ, 0 < e ∧ Ideal.ofBits .f32 0x358637BD#32 = (e : EReal) :=
    ⟨8796093 * (2 ^ 43)⁻¹, by positivity, by simp only [Ideal.ofBits, Ideal.ieee]; simp⟩
  unfold rms
  rw [h1, h2, Ideal.div_coe (by norm_num)]
  by_cases hx : ∀ j, ∃ y : ℝ, x j = y
  · choose a ha using hx
    simp only [ha, hb, ← EReal.coe_mul]
    rw [← coe_sum, ← EReal.coe_mul, ← EReal.coe_add]
    have hp : 0 < (∑ i, a i * a i) * (1 / 1024) + e := by
      have : 0 ≤ ∑ i, a i * a i := Finset.sum_nonneg fun i _ => mul_self_nonneg _
      positivity
    rw [Ideal.rsqrt_coe, if_neg hp.not_gt, if_neg hp.ne', ← EReal.coe_mul, ← EReal.coe_mul]
    exact ⟨_, rfl⟩
  · obtain ⟨d, hd⟩ := not_forall.mp hx
    have hsq : ∀ k, 0 ≤ x k * x k := fun k => by
      rcases le_total 0 (x k) with h | h
      · exact mul_nonneg h h
      · rw [← neg_mul_neg]
        exact mul_nonneg (EReal.neg_nonneg.mpr h) (EReal.neg_nonneg.mpr h)
    have hdd : x d * x d = ⊤ := by
      induction hxd : x d with
      | bot => exact EReal.bot_mul_bot
      | top => exact EReal.top_mul_top
      | coe y => exact absurd ⟨y, hxd⟩ hd
    have ht : ∑ k, x k * x k = ⊤ :=
      top_le_iff.mp (hdd ▸ Finset.single_le_sum (f := fun k => x k * x k) (fun k _ => hsq k) (Finset.mem_univ d))
    rw [ht, EReal.top_mul_coe_of_pos (by norm_num), EReal.top_add_coe, Ideal.rsqrt_top, mul_zero, zero_mul]
    exact ⟨0, rfl⟩

/-- Under the precondition the cross queries are real numbers, and so are the memory norm's weights and the weights of the
    memory's keys. -/
theorem real_of_pre (m : (ℓ : Loc Cert.MergeIdeal.nD Cert.MergeIdeal.τ Cert.MergeIdeal.sig) → Buf (Elt Ideal) ℓ)
    (h : Cert.Pre_MergeIdeal_merge_finite (hPre_merge_finite := preFacts) m) (c : Dev Cert.MergeIdeal.nD) :
    (∀ (r : Fin 32768) (l : Fin 512), ∃ y : ℝ, Cert.MergeIdeal.Hand.aP m c (ix2 r ⟨5632 + l.val, by omega⟩) = y)
    ∧ (∀ l : Fin 1024, ∃ y : ℝ, Cert.MergeIdeal.Hand.aMw m c (ix2 0 l) = y)
    ∧ ∀ (i : Fin 1024) (l : Fin 512), ∃ y : ℝ, Cert.MergeIdeal.Hand.aKv m c (ix3 0 i ⟨l.val, by omega⟩) = y := by
  obtain ⟨h1, h2, h3⟩ := h c
  refine ⟨fun r l => ?_, fun l => ?_, fun i l => ?_⟩
  · have e := congrFun h1 (ix2 r l)
    apply GqaClaims.real_of_abs_lt
    rw [← e]
    unfold Cert.Pre_merge_finite.fn
    pointwise
  · have e := congrFun h2 (ix2 0 l)
    apply GqaClaims.real_of_abs_lt
    rw [← e]
    unfold Cert.Pre_merge_finite.fn
    pointwise
  · have e := congrFun h3 (ix2 i l)
    apply GqaClaims.real_of_abs_lt
    rw [← e]
    unfold Cert.Pre_merge_finite.fn
    pointwise

/-- The mathematics' result of the kernel's arguments is the array the kernel leaves. -/
theorem value (m : (ℓ : Loc Cert.MergeIdeal.nD Cert.MergeIdeal.τ Cert.MergeIdeal.sig) → Buf (Elt Ideal) ℓ)
    (hpre : Cert.Pre_MergeIdeal_merge_finite (hPre_merge_finite := preFacts) m) (c : Dev Cert.MergeIdeal.nD) :
    Cert.MergeRefIdeal.Read.val_main_v96 (F := Ideal) (Cert.MergeIdeal.Hand.aX m c) (Cert.MergeIdeal.Hand.aP m c) (Cert.MergeIdeal.Hand.aY0 m c)
      (Cert.MergeIdeal.Hand.aY1 m c) (Cert.MergeIdeal.Hand.aM m c) (Cert.MergeIdeal.Hand.aMw m c) (Cert.MergeIdeal.Hand.aKv m c)
      (Cert.MergeIdeal.Hand.aWb m c) (Cert.MergeIdeal.Hand.aWo m c) (Cert.MergeIdeal.Hand.aNw m c) (Cert.MergeIdeal.Hand.aWu m c)
      (Cert.MergeIdeal.Hand.aWd m c) (Cert.MergeIdeal.Hand.aFw m c) = Cert.MergeIdeal.Hand.result m c := by
  obtain ⟨hq, hw, hk⟩ := real_of_pre m hpre c
  funext i
  obtain ⟨R, l, rfl⟩ : ∃ (R : Fin 32768) (l : Fin 1024), i = ix2 R l := ⟨_, _, Cert.MergeIdeal.Hand.eq_ix2 i⟩
  refine (Cert.MergeRefIdeal.Hand.value_apply _ _ _ _ _ _ _ _ _ _ _ _ _ R l hq fun r k => ?_).trans rfl
  rw [Cert.MergeRefIdeal.Hand.mkv_apply]
  exact exists_sum_mul _ _ (fun d => rms_real _ _ hw d) fun d => hk d k

/-- The kernel's result array is the mathematics' on every index, wherever the cross queries, the memory norm's weights
    and the weights of the memory's keys are finite. -/
theorem algebraic : Cert.algebraic_MergeIdeal_MergeRefIdeal_pre_merge_finite (hMergeIdeal := Cert.MergeIdeal.Gen.facts)
    (hMergeRefIdeal := Cert.MergeRefIdeal.Gen.facts) (hPre_merge_finite := preFacts) := by
  intro m ρ m' ρ' hpre hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨a0, a1, a2, a3, a4, a5, a6, a7, a8, a9, a10, a11, a12⟩ := hagree c
  rw [Cert.MergeRefIdeal.Read.val_main_v96_eq]
  refine Eq.trans ?_ (Cert.MergeIdeal.Hand.final_o m c).symm
  have hv : ∀ b0 b1 b2 b3 b4 b5 b6 b7 b8 b9 b10 b11 b12, b0 = Cert.MergeIdeal.Hand.aX m c → b1 = Cert.MergeIdeal.Hand.aP m c →
      b2 = Cert.MergeIdeal.Hand.aY0 m c → b3 = Cert.MergeIdeal.Hand.aY1 m c → b4 = Cert.MergeIdeal.Hand.aM m c →
      b5 = Cert.MergeIdeal.Hand.aMw m c → b6 = Cert.MergeIdeal.Hand.aKv m c → b7 = Cert.MergeIdeal.Hand.aWb m c →
      b8 = Cert.MergeIdeal.Hand.aWo m c → b9 = Cert.MergeIdeal.Hand.aNw m c → b10 = Cert.MergeIdeal.Hand.aWu m c →
      b11 = Cert.MergeIdeal.Hand.aWd m c → b12 = Cert.MergeIdeal.Hand.aFw m c →
      Cert.MergeRefIdeal.Read.val_main_v96 b0 b1 b2 b3 b4 b5 b6 b7 b8 b9 b10 b11 b12 = Cert.MergeIdeal.Hand.result m c := by
    rintro _ _ _ _ _ _ _ _ _ _ _ _ _ rfl rfl rfl rfl rfl rfl rfl rfl rfl rfl rfl rfl rfl
    exact value m hpre c
  exact hv _ _ _ _ _ _ _ _ _ _ _ _ _ a0 a1 a2 a3 a4 a5 a6 a7 a8 a9 a10 a11 a12

end Cert.Proof.MergeClaims

end
-- ==== Proof.InprojMath.lean ====
/-
  The input projection as a function of one row: the projected columns, the head norm and the rotary of mixer B's queries and keys.
-/
module

public import proofs.«01_k».proof.Proof.MergeMath

@[expose] public section

set_option maxRecDepth 16384

noncomputable section

namespace Cert.InprojMath

open Idealize.ShloMosaic Cert.MergeMath

/-- The head norm of one head's coordinates, with weights `w`. -/
def normed (x w : Fin 64 → EReal) (d : Fin 64) : EReal :=
  x d * Ideal.rsqrt (Ideal.div (∑ k, x k * x k) (Ideal.ofBits .f32 0x42800000#32) + Ideal.ofBits .f32 0x358637BD#32) * w d

/-- ONE HEAD, normed and rotated: within each run of 32 coordinates, coordinate `d` of the first 16 and coordinate `d + 16` are
    turned by the angle whose cosine and sine are `c` and `s`. -/
def rope (x w c s : Fin 64 → EReal) (d : Fin 64) : EReal :=
  if d.val % 32 < 16 then normed x w d * c d - normed x w ⟨(d.val + 16) % 64, by omega⟩ * s d
  else normed x w d * c d + normed x w ⟨d.val - 16, by omega⟩ * s d

/-- The lanes of the head that lane `l` of a run of 128 lies in. -/
abbrev lanes (y : Fin 128 → EReal) (l : Fin 128) (d : Fin 64) : EReal := y ⟨l.val / 64 * 64 + d.val, by omega⟩

/-- Two heads side by side in 128 lanes, each normed and rotated. -/
def rope2 (x w c s : Fin 128 → EReal) (l : Fin 128) : EReal :=
  rope (lanes x l) (lanes w l) (lanes c l) (lanes s l) ⟨l.val % 64, by omega⟩

/-- The scale of the queries: `1 / 8`, and `1 / log 2` for the exponentials to base two. -/
def scale : ℝ := 8⁻¹ * (Real.log 2)⁻¹

/-- The column of the layer's weights that the projected column `L` is of: the gates' logits first, then mixer A's columns, mixer B's
    queries, the cross queries, mixer B's keys and values. -/
def src (L : Fin 6400) : Fin 6416 :=
  ⟨if L.val < 3072 then 3344 + L.val else if L.val < 5120 then L.val - 3072 else if L.val < 5632 then L.val - 3056
    else if L.val < 6144 then L.val - 2800 else L.val - 3568, by split_ifs <;> omega⟩

/-- The 128 columns of the run that column `L` lies in. -/
abbrev run (p : Fin 6400 → EReal) (L : Fin 6400) (l : Fin 128) : EReal := p ⟨L.val / 128 * 128 + l.val, by omega⟩

/-- A row of the result from the projected row `p`: the queries' columns normed, rotated and scaled, the keys' columns normed and
    rotated, the others as they are. -/
def out (p : Fin 6400 → EReal) (qw kw c s : Fin 128 → EReal) (L : Fin 6400) : EReal :=
  if 5120 ≤ L.val ∧ L.val < 5632 then rope2 (run p L) qw c s ⟨L.val % 128, by omega⟩ * scale
  else if 6144 ≤ L.val ∧ L.val < 6272 then rope2 (run p L) kw c s ⟨L.val % 128, by omega⟩
  else p L

end Cert.InprojMath

end
-- ==== Proof.InprojPay.lean ====
/-
  The input projection kernel's stored values, read at an index over the extended reals.
-/
module

public import proofs.«01_k».proof.Proof.InprojMath
public import proofs.«01_k».proof.Proof.Gen.InprojIdeal.Skeleton
public import Idealize.ShloMosaic.Lib.Pointwise

@[expose] public section

set_option maxRecDepth 16384

noncomputable section

namespace Cert.InprojIdeal.Hand

open Cert.InprojIdeal Cert.InprojIdeal.Gen Idealize.ShloMosaic Cert.MergeMath Cert.InprojMath

/-- The row `r` of a rank-two array. -/
abbrev row {a b : ℕ} (x : (⟨2, ![a, b]⟩ : Shape).Idx → EReal) (r : Fin a) : Fin b → EReal := fun j => x (ix2 r j)

/-- A row times the transpose of a matrix. -/
abbrev tdot {n k : ℕ} (x : Fin n → EReal) (w : Fin k → Fin n → EReal) (j : Fin k) : EReal := dot x (fun i j => w j i) j

/-- The normed rows. -/
theorem pay1_apply (x : Vec Ideal S512x1024 .f32) (w : Vec Ideal S1x1024 .f32) (r : Fin 512) (l : Fin 1024) :
    k0_pay1 (F := Ideal) x w (ix2 r l) = rms (row x r) (row w 0) l := by
  unfold rms
  pointwise [k0_pay1]

/-- The projection's rows onto 512 of its columns. -/
theorem pay42_apply (h : Vec Ideal S512x1024 .bf16) (W : Vec Ideal S512x1024 .bf16) (r : Fin 512) (l : Fin 512) :
    k0_pay42 (F := Ideal) h W (ix2 r l) = tdot (row h r) (row W) l := by
  unfold tdot dot
  pointwise [k0_pay42]

/-- The projection's rows onto the last 256 columns. -/
theorem pay36_apply (h : Vec Ideal S512x1024 .bf16) (W : Vec Ideal S256x1024 .bf16) (r : Fin 512) (l : Fin 256) :
    k0_pay36 (F := Ideal) h W (ix2 r l) = tdot (row h r) (row W) l := by
  unfold tdot dot
  pointwise [k0_pay36]

/-- The projection's rows onto the gate logits' columns. -/
theorem pay97_apply (h : Vec Ideal S512x1024 .bf16) (W : Vec Ideal S128x1024 .bf16) (r : Fin 512) (l : Fin 128) :
    k0_pay97 (F := Ideal) h W (ix2 r l) = tdot (row h r) (row W) l := by
  unfold tdot dot
  pointwise [k0_pay97]

/-- The four runs of 128 among 512 columns. -/
theorem pay43_apply (h : Vec Ideal S512x1024 .bf16) (W : Vec Ideal S512x1024 .bf16) (r : Fin 512) (l : Fin 128) :
    k0_pay43 (F := Ideal) h W (ix2 r l) = tdot (row h r) (row W) ⟨l.val, by omega⟩ := by
  rw [← pay42_apply]
  pointwise [k0_pay43]

/-- The second run. -/
theorem pay44_apply (h : Vec Ideal S512x1024 .bf16) (W : Vec Ideal S512x1024 .bf16) (r : Fin 512) (l : Fin 128) :
    k0_pay44 (F := Ideal) h W (ix2 r l) = tdot (row h r) (row W) ⟨128 + l.val, by omega⟩ := by
  rw [← pay42_apply]
  pointwise [k0_pay44]

/-- The third run. -/
theorem pay45_apply (h : Vec Ideal S512x1024 .bf16) (W : Vec Ideal S512x1024 .bf16) (r : Fin 512) (l : Fin 128) :
    k0_pay45 (F := Ideal) h W (ix2 r l) = tdot (row h r) (row W) ⟨256 + l.val, by omega⟩ := by
  rw [← pay42_apply]
  pointwise [k0_pay45]

/-- The fourth run. -/
theorem pay46_apply (h : Vec Ideal S512x1024 .bf16) (W : Vec Ideal S512x1024 .bf16) (r : Fin 512) (l : Fin 128) :
    k0_pay46 (F := Ideal) h W (ix2 r l) = tdot (row h r) (row W) ⟨384 + l.val, by omega⟩ := by
  rw [← pay42_apply]
  pointwise [k0_pay46]

/-- The keys' run among the last 256 columns. -/
theorem pay37_apply (h : Vec Ideal S512x1024 .bf16) (W : Vec Ideal S256x1024 .bf16) (r : Fin 512) (l : Fin 128) :
    k0_pay37 (F := Ideal) h W (ix2 r l) = tdot (row h r) (row W) ⟨l.val, by omega⟩ := by
  rw [← pay36_apply]
  pointwise [k0_pay37]

/-- The values' run among the last 256 columns. -/
theorem pay41_apply (h : Vec Ideal S512x1024 .bf16) (W : Vec Ideal S256x1024 .bf16) (r : Fin 512) (l : Fin 128) :
    k0_pay41 (F := Ideal) (k0_pay36 h W) (ix2 r l) = tdot (row h r) (row W) ⟨128 + l.val, by omega⟩ := by
  rw [← pay36_apply]
  pointwise [k0_pay41]

/-- The queries' four runs. -/
theorem pay3_apply (x : Vec Ideal S512x1024 .f32) (n : Vec Ideal S1x1024 .f32) (W : Vec Ideal S512x1024 .bf16) (r : Fin 512) (l : Fin 128) :
    k0_pay3 (F := Ideal) x n W (ix2 r l) = tdot (row (k0_pay1 x n) r) (row W) ⟨l.val, by omega⟩ := by
  rw [← pay42_apply]
  pointwise [k0_pay3]
  rfl

/-- The comparison of a lane number with 64 picks the low half. -/
theorem lane_lt {n : ℕ} (hn : n < 128) : IntOp.cmpi .slt (BitVec.ofNat 32 n) 64#32 = 1#1 ↔ n < 64 :=
  (by decide +kernel : ∀ l : Fin 128, IntOp.cmpi .slt (BitVec.ofNat 32 l.val) 64#32 = 1#1 ↔ l.val < 64) ⟨n, hn⟩

/-- The comparison of a lane number's last five bits with 16 picks the first half of each run of 32 lanes. -/
theorem lane_first : ∀ l : Fin 128, IntOp.cmpi .slt (IntOp.andi (BitVec.ofNat 32 l.val) 31#32) 16#32 = 1#1 ↔ l.val % 32 < 16 := by
  decide +kernel

/-- A choice by a bit that states `p` is the choice by `p`. -/
theorem select_of_iff {α : Type} {b : BitVec 1} {p : Prop} [Decidable p] (h : b = 1#1 ↔ p) (x y : α) :
    Scalar.select b x y = if p then x else y := by
  unfold Scalar.select
  by_cases hp : p
  · rw [if_pos hp, h.mpr hp]; rfl
  · rw [if_neg hp]; exact if_neg (fun e => hp (h.mp e))

/-- The kernel's factor is a division by 64. -/
theorem mul_inv64 (x : EReal) : x * Ideal.ofBits .f32 0x3C800000#32 = Ideal.div x (Ideal.ofBits .f32 0x42800000#32) := by
  have h1 : Ideal.ofBits .f32 0x3C800000#32 = ((1 / 64 : ℝ) : EReal) := by
    simp only [Ideal.ofBits, Ideal.ieee]; simp; rw [← EReal.coe_mul]; norm_num
  have h2 : Ideal.ofBits .f32 0x42800000#32 = ((64 : ℝ) : EReal) := by
    simp only [Ideal.ofBits, Ideal.ieee]; simp; rw [← EReal.coe_mul]; norm_num
  rw [h1, h2, Ideal.div_coe (by norm_num)]

/-- Lanes of the same half name the same head. -/
theorem lanes_of {z : Fin 128 → EReal} {l l' : Fin 128} (h : l.val / 64 * 64 = l'.val / 64 * 64) : lanes z l = lanes z l' := by
  funext k
  unfold lanes
  simp only [h]

/-- A lane's normed value: the mean square is of the lanes of its own head. -/
theorem lane_normed (y v : Fin 128 → EReal) {n : ℕ} (hn : n < 128) :
    y ⟨n, hn⟩ * Ideal.rsqrt (Scalar.select (IntOp.cmpi .slt (BitVec.ofNat 32 n) 64#32)
        (∑ k : Fin 128, Scalar.select (IntOp.cmpi .slt (BitVec.ofNat 32 k.val) 64#32) (y k * y k) 0)
        (∑ k : Fin 128, Scalar.select (IntOp.cmpi .slt (BitVec.ofNat 32 k.val) 64#32) 0 (y k * y k)) * Ideal.ofBits .f32 0x3C800000#32
          + Ideal.ofBits .f32 0x358637BD#32) * v ⟨n, hn⟩
      = normed (lanes y ⟨n, hn⟩) (lanes v ⟨n, hn⟩) ⟨n % 64, by omega⟩ := by
  have hs : (if n < 64 then ∑ k : Fin 128, (if k.val < 64 then y k * y k else 0) else ∑ k : Fin 128, if k.val < 64 then 0 else y k * y k)
      = ∑ k : Fin 64, lanes y ⟨n, hn⟩ k * lanes y ⟨n, hn⟩ k := by
    have e : ∀ φ : Fin 128 → EReal, ∑ k, φ k = (∑ k : Fin 64, φ ⟨k.val, by omega⟩) + ∑ k : Fin 64, φ ⟨64 + k.val, by omega⟩ :=
      fun φ => (Fin.sum_univ_add (a := 64) (b := 64) φ).trans rfl
    rw [e, e]
    by_cases h : n < 64
    · have h0 : n / 64 * 64 = 0 := by omega
      simp [h, h0, lanes]
    · have h0 : n / 64 * 64 = 64 := by omega
      simp [h, h0, lanes]
  unfold normed
  simp only [fun k : Fin 128 => select_of_iff (α := EReal) (lane_lt k.isLt), select_of_iff (α := EReal) (lane_lt hn), hs, mul_inv64]
  have hl : ∀ z : Fin 128 → EReal, lanes z ⟨n, hn⟩ ⟨n % 64, by omega⟩ = z ⟨n, hn⟩ := fun z => by
    show z _ = _
    congr 1; apply Fin.ext; dsimp only; omega
  rw [hl, hl]

/-- Two heads' lanes of the block's rows, normed and rotated. -/
theorem pay15_apply (x : Vec Ideal S512x128 .f32) (w : Vec Ideal S1x128 .f32) (c s : Vec Ideal S512x128 .f32) (r : Fin 512) (l : Fin 128) :
    k0_pay15 (F := Ideal) x w c s (ix2 r l) = rope2 (row x r) (row w 0) (row c r) (row s r) l := by
  pointwise [k0_pay15]
  have e1 := lane_normed (row x r) (row w 0) l.isLt
  have e2 := lane_normed (row x r) (row w 0) (n := (l.val + 128 - 112) % 128) (by omega)
  have e3 := lane_normed (row x r) (row w 0) (n := (l.val + 128 - 16) % 128) (by omega)
  dsimp only [row] at e1 e2 e3
  rw [e1, e2, e3, select_of_iff (lane_first l)]
  unfold rope2 rope
  have hl : ∀ z : Fin 128 → EReal, lanes z l ⟨l.val % 64, by omega⟩ = z l := fun z => by
    show z _ = _
    congr 1; apply Fin.ext; dsimp only; omega
  rw [hl, hl]
  have h32 : l.val % 64 % 32 = l.val % 32 := by omega
  have e0 : ∀ z v : Fin 128 → EReal, normed (lanes z ⟨l.val, l.isLt⟩) (lanes v ⟨l.val, l.isLt⟩) ⟨l.val % 64, by omega⟩
      = normed (lanes z l) (lanes v l) ⟨l.val % 64, by omega⟩ := fun _ _ => rfl
  by_cases h : l.val % 32 < 16
  · have hm : (⟨(l.val + 128 - 112) % 128, by omega⟩ : Fin 128).val / 64 * 64 = l.val / 64 * 64 := by dsimp only; omega
    have hd : (⟨(l.val + 128 - 112) % 128 % 64, by omega⟩ : Fin 64) = ⟨(l.val % 64 + 16) % 64, by omega⟩ := Fin.ext (by dsimp only; omega)
    have hz : ∀ z v : Fin 128 → EReal, normed (lanes z ⟨(l.val + 128 - 112) % 128, by omega⟩) (lanes v ⟨(l.val + 128 - 112) % 128, by omega⟩)
        ⟨(l.val + 128 - 112) % 128 % 64, by omega⟩ = normed (lanes z l) (lanes v l) ⟨(l.val % 64 + 16) % 64, by omega⟩ := fun z v => by
      rw [lanes_of (z := z) hm, lanes_of (z := v) hm, hd]
    have hc : (l.val % 64) % 32 < 16 := by omega
    rw [if_pos h, if_pos hc, hz, e0, zero_sub, EReal.neg_mul, ← sub_eq_add_neg]
  · have hm : (⟨(l.val + 128 - 16) % 128, by omega⟩ : Fin 128).val / 64 * 64 = l.val / 64 * 64 := by dsimp only; omega
    have hd : (⟨(l.val + 128 - 16) % 128 % 64, by omega⟩ : Fin 64) = ⟨l.val % 64 - 16, by omega⟩ := Fin.ext (by dsimp only; omega)
    have hz : ∀ z v : Fin 128 → EReal, normed (lanes z ⟨(l.val + 128 - 16) % 128, by omega⟩) (lanes v ⟨(l.val + 128 - 16) % 128, by omega⟩)
        ⟨(l.val + 128 - 16) % 128 % 64, by omega⟩ = normed (lanes z l) (lanes v l) ⟨l.val % 64 - 16, by omega⟩ := fun z v => by
      rw [lanes_of (z := z) hm, lanes_of (z := v) hm, hd]
    have hc : ¬ (l.val % 64) % 32 < 16 := by omega
    rw [if_neg h, if_neg hc, hz, e0]

/-- The name of the queries' scale stands for its value. -/
theorem scale_eq : Named.named (F := Ideal) Cert.InprojIdeal.κ "q_scale" (φ := .f32) 0x3E38AA3B#32 = ((InprojMath.scale : ℝ) : EReal) :=
  IdealRules.named_const.ideal_named_scalar _ _ _ _ rfl

/-- Two query heads' lanes of the block's rows, normed, rotated and scaled. -/
theorem pay17_apply (x : Vec Ideal S512x128 .f32) (w : Vec Ideal S1x128 .f32) (c s : Vec Ideal S512x128 .f32) (r : Fin 512) (l : Fin 128) :
    k0_pay17 (F := Ideal) (k0_pay15 x (k0_pay13 w) (k0_pay14 c) s) k0_pay16 (ix2 r l)
      = rope2 (row x r) (row w 0) (row c r) (row s r) l * (InprojMath.scale : ℝ) := by
  have ew : k0_pay13 (F := Ideal) w = w := by funext i; unfold k0_pay13; exact congrFun (shapeCast_self _ _) i
  have ec : k0_pay14 (F := Ideal) c = c := by funext i; unfold k0_pay14; exact congrFun (shapeCast_self _ _) i
  rw [ew, ec, ← pay15_apply, ← scale_eq]
  rfl

/-- The first queries' run, as the others are written. -/
theorem pay11_eq (x : Vec Ideal S512x1024 .f32) (n : Vec Ideal S1x1024 .f32) (W : Vec Ideal S512x1024 .bf16) (w : Vec Ideal S1x128 .f32)
    (c s : Vec Ideal S512x128 .f32) :
    k0_pay11 (F := Ideal) (k0_pay3 x n W) (k0_pay4 w) (k0_pay5 c) (k0_pay6 s) k0_pay7 k0_pay8 (k0_pay9 x n W) (k0_pay10 x n W)
      = k0_pay17 (k0_pay15 (k0_pay3 x n W) (k0_pay13 w) (k0_pay14 c) s) k0_pay16 := rfl

/-- The third. -/
theorem pay24_eq (a : Vec Ideal S512x512 .f32) (w : Vec Ideal S1x128 .f32) (c s : Vec Ideal S512x128 .f32) :
    k0_pay24 (F := Ideal) (k0_pay18 a) (k0_pay19 w) (k0_pay20 c) (k0_pay21 s) k0_pay22 (k0_pay23 a)
      = k0_pay17 (k0_pay15 (k0_pay18 a) (k0_pay13 w) (k0_pay14 c) s) k0_pay16 := rfl

/-- The fourth. -/
theorem pay35_eq (a : Vec Ideal S512x512 .f32) (w : Vec Ideal S1x128 .f32) (c s : Vec Ideal S512x128 .f32) :
    k0_pay35 (F := Ideal) (k0_pay25 a) (k0_pay26 w) (k0_pay27 c) (k0_pay28 s) k0_pay29 k0_pay30 (k0_pay31 a) (k0_pay32 a) k0_pay33 k0_pay34
      = k0_pay17 (k0_pay15 (k0_pay25 a) (k0_pay13 w) (k0_pay14 c) s) k0_pay16 := rfl

/-- The keys' run: the same without the scale. -/
theorem pay40_eq (x : Vec Ideal S512x128 .f32) (w : Vec Ideal S1x128 .f32) (c s : Vec Ideal S512x128 .f32) :
    k0_pay40 (F := Ideal) x (k0_pay38 w) (k0_pay39 c) s = k0_pay15 x (k0_pay13 w) (k0_pay14 c) s := rfl

/-- The keys' two heads, normed and rotated. -/
theorem pay40_apply (x : Vec Ideal S512x128 .f32) (w : Vec Ideal S1x128 .f32) (c s : Vec Ideal S512x128 .f32) (r : Fin 512) (l : Fin 128) :
    k0_pay40 (F := Ideal) x (k0_pay38 w) (k0_pay39 c) s (ix2 r l) = rope2 (row x r) (row w 0) (row c r) (row s r) l := by
  have ew : k0_pay13 (F := Ideal) w = w := by funext i; unfold k0_pay13; exact congrFun (shapeCast_self _ _) i
  have ec : k0_pay14 (F := Ideal) c = c := by funext i; unfold k0_pay14; exact congrFun (shapeCast_self _ _) i
  rw [pay40_eq, ew, ec, pay15_apply]

/-- The queries' runs, from their four runs of the projected columns. -/
theorem pay12_apply (x : Vec Ideal S512x1024 .f32) (n : Vec Ideal S1x1024 .f32) (W : Vec Ideal S512x1024 .bf16) (r : Fin 512) (l : Fin 128) :
    k0_pay12 (F := Ideal) (k0_pay2 x n W) (ix2 r l) = tdot (row (k0_pay1 x n) r) (row W) ⟨128 + l.val, by omega⟩ :=
  pay44_apply (k0_pay1 x n) W r l

/-- The third. -/
theorem pay18_apply (x : Vec Ideal S512x1024 .f32) (n : Vec Ideal S1x1024 .f32) (W : Vec Ideal S512x1024 .bf16) (r : Fin 512) (l : Fin 128) :
    k0_pay18 (F := Ideal) (k0_pay2 x n W) (ix2 r l) = tdot (row (k0_pay1 x n) r) (row W) ⟨256 + l.val, by omega⟩ :=
  pay45_apply (k0_pay1 x n) W r l

/-- The fourth. -/
theorem pay25_apply (x : Vec Ideal S512x1024 .f32) (n : Vec Ideal S1x1024 .f32) (W : Vec Ideal S512x1024 .bf16) (r : Fin 512) (l : Fin 128) :
    k0_pay25 (F := Ideal) (k0_pay2 x n W) (ix2 r l) = tdot (row (k0_pay1 x n) r) (row W) ⟨384 + l.val, by omega⟩ :=
  pay46_apply (k0_pay1 x n) W r l

end Cert.InprojIdeal.Hand

end
-- ==== Proof.InprojBlock.lean ====
/-
  The input projection kernel's output blocks, as functions of the point's input blocks.
-/
module

public import proofs.«01_k».proof.Proof.InprojPay
public import proofs.«01_k».proof.Proof.Gen.InprojIdeal.Value
public import Idealize.ShloMosaic.Lib.Tactic
public import Idealize.ShloMosaic.Lib.Pipeline.ValueKit.Tiles
public import Idealize.ShloMosaic.Lib.Pipeline.ReadBack

@[expose] public section

set_option maxRecDepth 16384

noncomputable section

namespace Cert.InprojIdeal.Hand

open Cert.InprojIdeal Cert.InprojIdeal.Gen Idealize.ShloMosaic Idealize.ShloMosaic.TcCoe Idealize.SL.Sem Cert.MergeMath Cert.InprojMath

/-- The block of a rank-two array at zero offsets. -/
theorem hz : (![0, 0] : Fin 2 → Nat) = fun _ => 0 := funext fun a => by fin_cases a <;> rfl

/-- An index of a rank-two array is its two coordinates. -/
theorem eq_ix2 {a b : ℕ} (i : (⟨2, ![a, b]⟩ : Shape).Idx) : i = ix2 (i 0) (i 1) := funext fun d => by fin_cases d <;> rfl

/-- A row of the weights, through the block of rows it is loaded with. -/
theorem tdot_ld {a : ℕ} (h : Fin 1024 → EReal) (x2 : Vec Ideal S6528x1024 .bf16) (o : ℕ)
    (inb : ∀ d, (![o, 0] : Fin 2 → ℕ) d + (⟨2, ![a, 1024]⟩ : Shape).size d ≤ S6528x1024.size d) (j : Fin a) (k : Fin 6528) (hk : k.val = o + j.val) :
    tdot h (row (a := a) (b := 1024) (View.ld x2 (Rect.unit (s := S6528x1024) ![o, 0] (⟨2, ![a, 1024]⟩ : Shape).size inb))) j
      = tdot h (row x2) k := by
  unfold tdot dot
  refine Finset.sum_congr rfl fun i _ => ?_
  congr 1
  show View.ld x2 _ _ = _
  rw [View.ld_apply]
  congr 1; funext d; apply Fin.ext; fin_cases d
  · show o + 1 * j.val = k.val; omega
  · show 0 + 1 * i.val = i.val; omega

variable (x0 : Vec Ideal S512x1024 .f32) (x1 : Vec Ideal S1x1024 .f32) (x2 : Vec Ideal S6528x1024 .bf16) (x3 x4 : Vec Ideal S512x128 .f32)
  (x5 x6 : Vec Ideal S1x128 .f32)

/-- The block of projected columns, from the point's blocks. -/
def block (y : S512x6400.Idx) : EReal :=
  out (fun L => tdot (row (k0_pay1 (F := Ideal) x0 x1) (y 0)) (row x2) ⟨L.val, by omega⟩) (row x5 0) (row x6 0) (row x3 (y 0)) (row x4 (y 0)) (y 1)

/-- The columns of a stored run. -/
theorem emb_run (off : ℕ) (inb : ∀ d, (![0, off] : Fin 2 → ℕ) d + S512x128.size d ≤ S512x6400.size d) (r : Fin 512) (l : Fin 128) :
    (Rect.unit (s := S512x6400) ![0, off] S512x128.size inb).emb (ix2 r l)
      = ix2 r (⟨off + l.val, by have h : off + 128 ≤ 6400 := inb 1; omega⟩ : Fin 6400) := by
  funext d; apply Fin.ext; fin_cases d
  · show 0 + 1 * r.val = r.val; omega
  · show off + 1 * l.val = off + l.val; omega

/-- A run stored as it is projected. -/
theorem piece_plain (f : Vec Ideal S512x128 .bf16) (off : ℕ) (inb : ∀ d, (![0, off] : Fin 2 → ℕ) d + S512x128.size d ≤ S512x6400.size d)
    (ho : off + 128 ≤ 6400) (hr : off + 128 ≤ 5120 ∨ (5632 ≤ off ∧ off + 128 ≤ 6144) ∨ 6272 ≤ off)
    (hf : ∀ (r : Fin 512) (l : Fin 128), f (ix2 r l) = tdot (row (k0_pay1 (F := Ideal) x0 x1) r) (row x2) ⟨off + l.val, by omega⟩) (x : S512x128.Idx) :
    f x = block x0 x1 x2 x3 x4 x5 x6 ((Rect.unit (s := S512x6400) ![0, off] S512x128.size inb).emb x) := by
  obtain ⟨r, l, rfl⟩ : ∃ (r : Fin 512) (l : Fin 128), x = ix2 r l := ⟨_, _, eq_ix2 x⟩
  rw [emb_run, hf]
  unfold block out
  have h1 : ¬(5120 ≤ off + l.val ∧ off + l.val < 5632) := by omega
  have h2 : ¬(6144 ≤ off + l.val ∧ off + l.val < 6272) := by omega
  exact ((if_neg h1).trans (if_neg h2)).symm

/-- A run of the queries' columns. -/
theorem piece_query (X : Vec Ideal S512x128 .f32) (off : ℕ) (inb : ∀ d, (![0, off] : Fin 2 → ℕ) d + S512x128.size d ≤ S512x6400.size d)
    (ho : off % 128 = 0) (hr : 5120 ≤ off ∧ off + 128 ≤ 5632) (f : Vec Ideal S512x128 .bf16)
    (hf : f = k0_pay17 (F := Ideal) (k0_pay15 X (k0_pay13 x5) (k0_pay14 x3) x4) k0_pay16)
    (hX : ∀ (r : Fin 512) (l : Fin 128), X (ix2 r l) = tdot (row (k0_pay1 (F := Ideal) x0 x1) r) (row x2) ⟨off + l.val, by omega⟩) (x : S512x128.Idx) :
    f x = block x0 x1 x2 x3 x4 x5 x6 ((Rect.unit (s := S512x6400) ![0, off] S512x128.size inb).emb x) := by
  obtain ⟨r, l, rfl⟩ : ∃ (r : Fin 512) (l : Fin 128), x = ix2 r l := ⟨_, _, eq_ix2 x⟩
  rw [emb_run, hf, pay17_apply]
  unfold block out
  have h1 : 5120 ≤ off + l.val ∧ off + l.val < 5632 := by omega
  refine Eq.trans ?_ (if_pos h1).symm
  congr 1
  have hl : (⟨(off + l.val) % 128, by omega⟩ : Fin 128) = l := Fin.ext (by dsimp only; omega)
  have hx : row X r = fun k : Fin 128 => tdot (row (k0_pay1 (F := Ideal) x0 x1) r) (row x2) ⟨(off + l.val) / 128 * 128 + k.val, by omega⟩ := funext fun k => by
    rw [show row X r k = _ from hX r k]
    congr 1; apply Fin.ext; dsimp only; omega
  rw [hx]
  exact congrArg (rope2 _ _ _ _) hl.symm

/-- The run of the keys' columns. -/
theorem piece_key (X : Vec Ideal S512x128 .f32) (inb : ∀ d, (![0, 6144] : Fin 2 → ℕ) d + S512x128.size d ≤ S512x6400.size d)
    (hX : ∀ (r : Fin 512) (l : Fin 128), X (ix2 r l) = tdot (row (k0_pay1 (F := Ideal) x0 x1) r) (row x2) ⟨6144 + l.val, by omega⟩) (x : S512x128.Idx) :
    k0_pay40 (F := Ideal) X (k0_pay38 x6) (k0_pay39 x3) x4 x
      = block x0 x1 x2 x3 x4 x5 x6 ((Rect.unit (s := S512x6400) ![0, 6144] S512x128.size inb).emb x) := by
  obtain ⟨r, l, rfl⟩ : ∃ (r : Fin 512) (l : Fin 128), x = ix2 r l := ⟨_, _, eq_ix2 x⟩
  rw [emb_run, pay40_apply]
  unfold block out
  have h1 : ¬(5120 ≤ 6144 + l.val ∧ 6144 + l.val < 5632) := by omega
  have h2 : 6144 ≤ 6144 + l.val ∧ 6144 + l.val < 6272 := by omega
  refine Eq.trans ?_ ((if_neg h1).trans (if_pos h2)).symm
  have hl : (⟨(6144 + l.val) % 128, by omega⟩ : Fin 128) = l := Fin.ext (by dsimp only; omega)
  have hx : row X r = fun k : Fin 128 => tdot (row (k0_pay1 (F := Ideal) x0 x1) r) (row x2) ⟨(6144 + l.val) / 128 * 128 + k.val, by omega⟩ := funext fun k => by
    rw [show row X r k = _ from hX r k]
    congr 1; apply Fin.ext; dsimp only; omega
  rw [hx]
  exact congrArg (rope2 _ _ _ _) hl.symm

set_option maxHeartbeats 4000000 in
/-- What a point leaves in the block of projected columns. -/
theorem out7_eq (y : S512x6400.Idx) : out0_7 (F := Ideal) x0 x1 x2 x3 x4 x5 x6 y = block x0 x1 x2 x3 x4 x5 x6 y := by
  have e0 : View.ld x0 r0_0 = x0 := View.ld_unit_zero hz _ x0
  have e1 : View.ld x1 r0_1 = x1 := View.ld_unit_zero hz _ x1
  have e3 : View.ld x3 r0_4 = x3 := View.ld_unit_zero hz _ x3
  have e4 : View.ld x4 r0_4 = x4 := View.ld_unit_zero hz _ x4
  have e5 : View.ld x5 r0_3 = x5 := View.ld_unit_zero hz _ x5
  have e6 : View.ld x6 r0_3 = x6 := View.ld_unit_zero hz _ x6
  unfold out0_7 k0_pay98 k0_pay99
  rw [e0, e1, e3, e4, e5, e6]
  refine View.canon_apply_of_pieces (Val := Elt Ideal) (block x0 x1 x2 x3 x4 x5 x6) _ (View.PiecesOf.mem ?_) y (cover0_7 _ _ _ _ _ _ _ _ _ _ _ _ _ _ _ _ _ _ _ _ _ _ _ _ _ _ _ _ _ _ _ _ _ _ _ _ _ _ _ _ _ _ _ _ _ _ _ _ _ _ y)
  exact ⟨piece_plain x0 x1 x2 x3 x4 x5 x6 _ 6016 inb_S512x6400_S512x128_0_6016 (by omega) (by omega) fun r l => (pay46_apply _ _ r l).trans (tdot_ld _ x2 5632 inb_S6528x1024_S512x1024_5632_0 _ _ (by first | rfl | (dsimp only; omega))),
    piece_plain x0 x1 x2 x3 x4 x5 x6 _ 5888 inb_S512x6400_S512x128_0_5888 (by omega) (by omega) fun r l => (pay45_apply _ _ r l).trans (tdot_ld _ x2 5632 inb_S6528x1024_S512x1024_5632_0 _ _ (by first | rfl | (dsimp only; omega))),
    piece_plain x0 x1 x2 x3 x4 x5 x6 _ 5760 inb_S512x6400_S512x128_0_5760 (by omega) (by omega) fun r l => (pay44_apply _ _ r l).trans (tdot_ld _ x2 5632 inb_S6528x1024_S512x1024_5632_0 _ _ (by first | rfl | (dsimp only; omega))),
    piece_plain x0 x1 x2 x3 x4 x5 x6 _ 5632 inb_S512x6400_S512x128_0_5632 (by omega) (by omega) fun r l => (pay43_apply _ _ r l).trans (tdot_ld _ x2 5632 inb_S6528x1024_S512x1024_5632_0 _ _ (by first | rfl | (dsimp only; omega))),
    piece_plain x0 x1 x2 x3 x4 x5 x6 _ 4992 inb_S512x6400_S512x128_0_4992 (by omega) (by omega) fun r l => (pay46_apply _ _ r l).trans (tdot_ld _ x2 4608 inb_S6528x1024_S512x1024_4608_0 _ _ (by first | rfl | (dsimp only; omega))),
    piece_plain x0 x1 x2 x3 x4 x5 x6 _ 4864 inb_S512x6400_S512x128_0_4864 (by omega) (by omega) fun r l => (pay45_apply _ _ r l).trans (tdot_ld _ x2 4608 inb_S6528x1024_S512x1024_4608_0 _ _ (by first | rfl | (dsimp only; omega))),
    piece_plain x0 x1 x2 x3 x4 x5 x6 _ 4736 inb_S512x6400_S512x128_0_4736 (by omega) (by omega) fun r l => (pay44_apply _ _ r l).trans (tdot_ld _ x2 4608 inb_S6528x1024_S512x1024_4608_0 _ _ (by first | rfl | (dsimp only; omega))),
    piece_plain x0 x1 x2 x3 x4 x5 x6 _ 4608 inb_S512x6400_S512x128_0_4608 (by omega) (by omega) fun r l => (pay43_apply _ _ r l).trans (tdot_ld _ x2 4608 inb_S6528x1024_S512x1024_4608_0 _ _ (by first | rfl | (dsimp only; omega))),
    piece_plain x0 x1 x2 x3 x4 x5 x6 _ 4480 inb_S512x6400_S512x128_0_4480 (by omega) (by omega) fun r l => (pay46_apply _ _ r l).trans (tdot_ld _ x2 4096 inb_S6528x1024_S512x1024_4096_0 _ _ (by first | rfl | (dsimp only; omega))),
    piece_plain x0 x1 x2 x3 x4 x5 x6 _ 4352 inb_S512x6400_S512x128_0_4352 (by omega) (by omega) fun r l => (pay45_apply _ _ r l).trans (tdot_ld _ x2 4096 inb_S6528x1024_S512x1024_4096_0 _ _ (by first | rfl | (dsimp only; omega))),
    piece_plain x0 x1 x2 x3 x4 x5 x6 _ 4224 inb_S512x6400_S512x128_0_4224 (by omega) (by omega) fun r l => (pay44_apply _ _ r l).trans (tdot_ld _ x2 4096 inb_S6528x1024_S512x1024_4096_0 _ _ (by first | rfl | (dsimp only; omega))),
    piece_plain x0 x1 x2 x3 x4 x5 x6 _ 4096 inb_S512x6400_S512x128_0_4096 (by omega) (by omega) fun r l => (pay43_apply _ _ r l).trans (tdot_ld _ x2 4096 inb_S6528x1024_S512x1024_4096_0 _ _ (by first | rfl | (dsimp only; omega))),
    piece_plain x0 x1 x2 x3 x4 x5 x6 _ 3968 inb_S512x6400_S512x128_0_3968 (by omega) (by omega) fun r l => (pay46_apply _ _ r l).trans (tdot_ld _ x2 3584 inb_S6528x1024_S512x1024_3584_0 _ _ (by first | rfl | (dsimp only; omega))),
    piece_plain x0 x1 x2 x3 x4 x5 x6 _ 3840 inb_S512x6400_S512x128_0_3840 (by omega) (by omega) fun r l => (pay45_apply _ _ r l).trans (tdot_ld _ x2 3584 inb_S6528x1024_S512x1024_3584_0 _ _ (by first | rfl | (dsimp only; omega))),
    piece_plain x0 x1 x2 x3 x4 x5 x6 _ 3712 inb_S512x6400_S512x128_0_3712 (by omega) (by omega) fun r l => (pay44_apply _ _ r l).trans (tdot_ld _ x2 3584 inb_S6528x1024_S512x1024_3584_0 _ _ (by first | rfl | (dsimp only; omega))),
    piece_plain x0 x1 x2 x3 x4 x5 x6 _ 3584 inb_S512x6400_S512x128_0_3584 (by omega) (by omega) fun r l => (pay43_apply _ _ r l).trans (tdot_ld _ x2 3584 inb_S6528x1024_S512x1024_3584_0 _ _ (by first | rfl | (dsimp only; omega))),
    piece_plain x0 x1 x2 x3 x4 x5 x6 _ 3456 inb_S512x6400_S512x128_0_3456 (by omega) (by omega) fun r l => (pay46_apply _ _ r l).trans (tdot_ld _ x2 3072 inb_S6528x1024_S512x1024_3072_0 _ _ (by first | rfl | (dsimp only; omega))),
    piece_plain x0 x1 x2 x3 x4 x5 x6 _ 3328 inb_S512x6400_S512x128_0_3328 (by omega) (by omega) fun r l => (pay45_apply _ _ r l).trans (tdot_ld _ x2 3072 inb_S6528x1024_S512x1024_3072_0 _ _ (by first | rfl | (dsimp only; omega))),
    piece_plain x0 x1 x2 x3 x4 x5 x6 _ 3200 inb_S512x6400_S512x128_0_3200 (by omega) (by omega) fun r l => (pay44_apply _ _ r l).trans (tdot_ld _ x2 3072 inb_S6528x1024_S512x1024_3072_0 _ _ (by first | rfl | (dsimp only; omega))),
    piece_plain x0 x1 x2 x3 x4 x5 x6 _ 3072 inb_S512x6400_S512x128_0_3072 (by omega) (by omega) fun r l => (pay43_apply _ _ r l).trans (tdot_ld _ x2 3072 inb_S6528x1024_S512x1024_3072_0 _ _ (by first | rfl | (dsimp only; omega))),
    piece_plain x0 x1 x2 x3 x4 x5 x6 _ 2944 inb_S512x6400_S512x128_0_2944 (by omega) (by omega) fun r l => (pay46_apply _ _ r l).trans (tdot_ld _ x2 2560 inb_S6528x1024_S512x1024_2560_0 _ _ (by first | rfl | (dsimp only; omega))),
    piece_plain x0 x1 x2 x3 x4 x5 x6 _ 2816 inb_S512x6400_S512x128_0_2816 (by omega) (by omega) fun r l => (pay45_apply _ _ r l).trans (tdot_ld _ x2 2560 inb_S6528x1024_S512x1024_2560_0 _ _ (by first | rfl | (dsimp only; omega))),
    piece_plain x0 x1 x2 x3 x4 x5 x6 _ 2688 inb_S512x6400_S512x128_0_2688 (by omega) (by omega) fun r l => (pay44_apply _ _ r l).trans (tdot_ld _ x2 2560 inb_S6528x1024_S512x1024_2560_0 _ _ (by first | rfl | (dsimp only; omega))),
    piece_plain x0 x1 x2 x3 x4 x5 x6 _ 2560 inb_S512x6400_S512x128_0_2560 (by omega) (by omega) fun r l => (pay43_apply _ _ r l).trans (tdot_ld _ x2 2560 inb_S6528x1024_S512x1024_2560_0 _ _ (by first | rfl | (dsimp only; omega))),
    piece_plain x0 x1 x2 x3 x4 x5 x6 _ 2432 inb_S512x6400_S512x128_0_2432 (by omega) (by omega) fun r l => (pay46_apply _ _ r l).trans (tdot_ld _ x2 2048 inb_S6528x1024_S512x1024_2048_0 _ _ (by first | rfl | (dsimp only; omega))),
    piece_plain x0 x1 x2 x3 x4 x5 x6 _ 2304 inb_S512x6400_S512x128_0_2304 (by omega) (by omega) fun r l => (pay45_apply _ _ r l).trans (tdot_ld _ x2 2048 inb_S6528x1024_S512x1024_2048_0 _ _ (by first | rfl | (dsimp only; omega))),
    piece_plain x0 x1 x2 x3 x4 x5 x6 _ 2176 inb_S512x6400_S512x128_0_2176 (by omega) (by omega) fun r l => (pay44_apply _ _ r l).trans (tdot_ld _ x2 2048 inb_S6528x1024_S512x1024_2048_0 _ _ (by first | rfl | (dsimp only; omega))),
    piece_plain x0 x1 x2 x3 x4 x5 x6 _ 2048 inb_S512x6400_S512x128_0_2048 (by omega) (by omega) fun r l => (pay43_apply _ _ r l).trans (tdot_ld _ x2 2048 inb_S6528x1024_S512x1024_2048_0 _ _ (by first | rfl | (dsimp only; omega))),
    piece_plain x0 x1 x2 x3 x4 x5 x6 _ 1920 inb_S512x6400_S512x128_0_1920 (by omega) (by omega) fun r l => (pay46_apply _ _ r l).trans (tdot_ld _ x2 1536 inb_S6528x1024_S512x1024_1536_0 _ _ (by first | rfl | (dsimp only; omega))),
    piece_plain x0 x1 x2 x3 x4 x5 x6 _ 1792 inb_S512x6400_S512x128_0_1792 (by omega) (by omega) fun r l => (pay45_apply _ _ r l).trans (tdot_ld _ x2 1536 inb_S6528x1024_S512x1024_1536_0 _ _ (by first | rfl | (dsimp only; omega))),
    piece_plain x0 x1 x2 x3 x4 x5 x6 _ 1664 inb_S512x6400_S512x128_0_1664 (by omega) (by omega) fun r l => (pay44_apply _ _ r l).trans (tdot_ld _ x2 1536 inb_S6528x1024_S512x1024_1536_0 _ _ (by first | rfl | (dsimp only; omega))),
    piece_plain x0 x1 x2 x3 x4 x5 x6 _ 1536 inb_S512x6400_S512x128_0_1536 (by omega) (by omega) fun r l => (pay43_apply _ _ r l).trans (tdot_ld _ x2 1536 inb_S6528x1024_S512x1024_1536_0 _ _ (by first | rfl | (dsimp only; omega))),
    piece_plain x0 x1 x2 x3 x4 x5 x6 _ 1408 inb_S512x6400_S512x128_0_1408 (by omega) (by omega) fun r l => (pay46_apply _ _ r l).trans (tdot_ld _ x2 1024 inb_S6528x1024_S512x1024_1024_0 _ _ (by first | rfl | (dsimp only; omega))),
    piece_plain x0 x1 x2 x3 x4 x5 x6 _ 1280 inb_S512x6400_S512x128_0_1280 (by omega) (by omega) fun r l => (pay45_apply _ _ r l).trans (tdot_ld _ x2 1024 inb_S6528x1024_S512x1024_1024_0 _ _ (by first | rfl | (dsimp only; omega))),
    piece_plain x0 x1 x2 x3 x4 x5 x6 _ 1152 inb_S512x6400_S512x128_0_1152 (by omega) (by omega) fun r l => (pay44_apply _ _ r l).trans (tdot_ld _ x2 1024 inb_S6528x1024_S512x1024_1024_0 _ _ (by first | rfl | (dsimp only; omega))),
    piece_plain x0 x1 x2 x3 x4 x5 x6 _ 1024 inb_S512x6400_S512x128_0_1024 (by omega) (by omega) fun r l => (pay43_apply _ _ r l).trans (tdot_ld _ x2 1024 inb_S6528x1024_S512x1024_1024_0 _ _ (by first | rfl | (dsimp only; omega))),
    piece_plain x0 x1 x2 x3 x4 x5 x6 _ 896 inb_S512x6400_S512x128_0_896 (by omega) (by omega) fun r l => (pay46_apply _ _ r l).trans (tdot_ld _ x2 512 inb_S6528x1024_S512x1024_512_0 _ _ (by first | rfl | (dsimp only; omega))),
    piece_plain x0 x1 x2 x3 x4 x5 x6 _ 768 inb_S512x6400_S512x128_0_768 (by omega) (by omega) fun r l => (pay45_apply _ _ r l).trans (tdot_ld _ x2 512 inb_S6528x1024_S512x1024_512_0 _ _ (by first | rfl | (dsimp only; omega))),
    piece_plain x0 x1 x2 x3 x4 x5 x6 _ 640 inb_S512x6400_S512x128_0_640 (by omega) (by omega) fun r l => (pay44_apply _ _ r l).trans (tdot_ld _ x2 512 inb_S6528x1024_S512x1024_512_0 _ _ (by first | rfl | (dsimp only; omega))),
    piece_plain x0 x1 x2 x3 x4 x5 x6 _ 512 inb_S512x6400_S512x128_0_512 (by omega) (by omega) fun r l => (pay43_apply _ _ r l).trans (tdot_ld _ x2 512 inb_S6528x1024_S512x1024_512_0 _ _ (by first | rfl | (dsimp only; omega))),
    piece_plain x0 x1 x2 x3 x4 x5 x6 _ 384 inb_S512x6400_S512x128_0_384 (by omega) (by omega) fun r l => (pay46_apply _ _ r l).trans (tdot_ld _ x2 0 inb_S6528x1024_S512x1024_0_0 _ _ (by first | rfl | (dsimp only; omega))),
    piece_plain x0 x1 x2 x3 x4 x5 x6 _ 256 inb_S512x6400_S512x128_0_256 (by omega) (by omega) fun r l => (pay45_apply _ _ r l).trans (tdot_ld _ x2 0 inb_S6528x1024_S512x1024_0_0 _ _ (by first | rfl | (dsimp only; omega))),
    piece_plain x0 x1 x2 x3 x4 x5 x6 _ 128 inb_S512x6400_S512x128_0_128 (by omega) (by omega) fun r l => (pay44_apply _ _ r l).trans (tdot_ld _ x2 0 inb_S6528x1024_S512x1024_0_0 _ _ (by first | rfl | (dsimp only; omega))),
    piece_plain x0 x1 x2 x3 x4 x5 x6 _ 0 inb_S512x6400_S512x128_0_0 (by omega) (by omega) fun r l => (pay43_apply _ _ r l).trans (tdot_ld _ x2 0 inb_S6528x1024_S512x1024_0_0 _ _ (by first | rfl | (dsimp only; omega))),
    piece_plain x0 x1 x2 x3 x4 x5 x6 _ 6272 inb_S512x6400_S512x128_0_6272 (by omega) (by omega) fun r l => (pay41_apply _ _ r l).trans (tdot_ld _ x2 6144 inb_S6528x1024_S256x1024_6144_0 _ _ (by first | rfl | (dsimp only; omega))),
    piece_key x0 x1 x2 x3 x4 x5 x6 _ inb_S512x6400_S512x128_0_6144 (fun r l => (pay37_apply _ _ r l).trans (tdot_ld _ x2 6144 inb_S6528x1024_S256x1024_6144_0 _ _ (by first | rfl | (dsimp only; omega)))),
    piece_query x0 x1 x2 x3 x4 x5 x6 (k0_pay25 (F := Ideal) (k0_pay2 x0 x1 (View.ld x2 r0_2))) 5504 inb_S512x6400_S512x128_0_5504 (by omega) (by omega) _ (pay35_eq _ _ _ _) (fun r l => (pay25_apply _ _ _ r l).trans (tdot_ld _ x2 5120 inb_S6528x1024_S512x1024_5120_0 _ _ (by first | rfl | (dsimp only; omega)))),
    piece_query x0 x1 x2 x3 x4 x5 x6 (k0_pay18 (F := Ideal) (k0_pay2 x0 x1 (View.ld x2 r0_2))) 5376 inb_S512x6400_S512x128_0_5376 (by omega) (by omega) _ (pay24_eq _ _ _ _) (fun r l => (pay18_apply _ _ _ r l).trans (tdot_ld _ x2 5120 inb_S6528x1024_S512x1024_5120_0 _ _ (by first | rfl | (dsimp only; omega)))),
    piece_query x0 x1 x2 x3 x4 x5 x6 (k0_pay12 (F := Ideal) (k0_pay2 x0 x1 (View.ld x2 r0_2))) 5248 inb_S512x6400_S512x128_0_5248 (by omega) (by omega) _ (rfl) (fun r l => (pay12_apply _ _ _ r l).trans (tdot_ld _ x2 5120 inb_S6528x1024_S512x1024_5120_0 _ _ (by first | rfl | (dsimp only; omega)))),
    piece_query x0 x1 x2 x3 x4 x5 x6 (k0_pay3 (F := Ideal) x0 x1 (View.ld x2 r0_2)) 5120 inb_S512x6400_S512x128_0_5120 (by omega) (by omega) _ (pay11_eq _ _ _ _ _ _) (fun r l => (pay3_apply _ _ _ r l).trans (tdot_ld _ x2 5120 inb_S6528x1024_S512x1024_5120_0 _ _ (by first | rfl | (dsimp only; omega)))), trivial⟩

/-- What a point leaves in the block of gate logits. -/
theorem out8_apply (r : Fin 512) (l : Fin 128) :
    out0_8 (F := Ideal) x0 x1 x2 x3 x4 x5 x6 (ix2 r l) = tdot (row (k0_pay1 (F := Ideal) x0 x1) r) (row x2) ⟨6400 + l.val, by omega⟩ := by
  have e0 : View.ld x0 r0_0 = x0 := View.ld_unit_zero hz _ x0
  have e1 : View.ld x1 r0_1 = x1 := View.ld_unit_zero hz _ x1
  unfold out0_8 k0_pay98
  rw [View.canon_unit_zero hz, e0, e1]
  exact (pay97_apply _ _ r l).trans (tdot_ld _ x2 6400 inb_S6528x1024_S128x1024_6400_0 _ _ rfl)

end Cert.InprojIdeal.Hand

end
-- ==== Proof.InprojHost.lean ====
/-
  The arrays the input projection's host operations prepare for its kernel, read at an index: the weights' columns put in the
  kernel's order, and the norms' weights and the angles laid out by lane.
-/
module

public import proofs.«01_k».proof.Proof.InprojBlock
public import Idealize.ShloMosaic.Lib.StableHlo.ReadAt

@[expose] public section

set_option maxRecDepth 16384

noncomputable section

namespace Cert.InprojIdeal.Hand

open Cert.InprojIdeal Cert.InprojIdeal.Gen Idealize.ShloMosaic Idealize.ShloMosaic.TcCoe Idealize.SL.Sem Cert.MergeMath Cert.InprojMath

variable (m : (ℓ : Loc nD τ sig) → Buf (Elt Ideal) ℓ) (c : Dev nD)

/-- The residual stream. -/
abbrev aX : Vec Ideal S32768x1024 .f32 := m (c.tc.loc main_arg0)

/-- The mixers' norm's weights. -/
abbrev aN : Vec Ideal S1x1024 .f32 := m (c.tc.loc main_arg1)

/-- The projection's weights. -/
abbrev aW : Vec Ideal S1x1024x6416 .f32 := m (c.tc.loc main_arg2)

/-- The queries' norm's weights. -/
abbrev aQ : Vec Ideal S1x64 .f32 := m (c.tc.loc main_arg3)

/-- The keys' norm's weights. -/
abbrev aK : Vec Ideal S1x64 .f32 := m (c.tc.loc main_arg4)

/-- The rotary's cosines. -/
abbrev aC : Vec Ideal S2048x2x16 .f32 := m (c.tc.loc main_arg5)

/-- The rotary's sines. -/
abbrev aS : Vec Ideal S2048x2x16 .f32 := m (c.tc.loc main_arg6)

/-- The norm's weights, as the window's array holds them. -/
theorem v32_apply (j : Fin 1024) : (V m c main_v32 : Vec Ideal S1x1024 .f32) (ix2 0 j) = aN m c (ix2 0 j) := by
  unfold V
  after_reads_at

/-- The queries' norm's weights, once per head of a run. -/
theorem v37_apply (l : Fin 128) : (V m c main_v37 : Vec Ideal S1x128 .f32) (ix2 0 l) = aQ m c (ix2 0 ⟨l.val % 64, by omega⟩) := by
  unfold V
  after_reads_at

/-- The keys' norm's weights, once per head of a run. -/
theorem v42_apply (l : Fin 128) : (V m c main_v42 : Vec Ideal S1x128 .f32) (ix2 0 l) = aK m c (ix2 0 ⟨l.val % 64, by omega⟩) := by
  unfold V
  after_reads_at

set_option maxHeartbeats 2000000 in
/-- The cosines by lane: of the row's angles in the first 32 lanes of a head, of the column's in the others. -/
theorem v4_apply (t : Fin 2048) (l : Fin 128) :
    (V m c main_v4 : Vec Ideal S2048x128 .f32) (ix2 t l) = aC m c (ix3 t ⟨l.val % 64 / 32, by omega⟩ ⟨l.val % 16, by omega⟩) := by
  unfold V
  after_reads_at
  split_ifs
  all_goals
    after_reads_at
    congr 1
    funext a
    apply Fin.ext
    match a with
    | ⟨0, _⟩ => rfl
    | ⟨1, _⟩ => show _ = l.val % 64 / 32; simp; omega
    | ⟨2, _⟩ => show _ = l.val % 16; simp; omega

set_option maxHeartbeats 2000000 in
/-- The sines by lane. -/
theorem v9_apply (t : Fin 2048) (l : Fin 128) :
    (V m c main_v9 : Vec Ideal S2048x128 .f32) (ix2 t l) = aS m c (ix3 t ⟨l.val % 64 / 32, by omega⟩ ⟨l.val % 16, by omega⟩) := by
  unfold V
  after_reads_at
  split_ifs
  all_goals
    after_reads_at
    congr 1
    funext a
    apply Fin.ext
    match a with
    | ⟨0, _⟩ => rfl
    | ⟨1, _⟩ => show _ = l.val % 64 / 32; simp; omega
    | ⟨2, _⟩ => show _ = l.val % 16; simp; omega

/-- The weights' rows of the projected columns. -/
theorem v30_apply (L : Fin 6400) (i : Fin 1024) :
    (V m c main_v30 : Vec Ideal S6528x1024 .bf16) (ix2 ⟨L.val, by omega⟩ i) = aW m c (ix3 0 i (src L)) := by
  have hL := L.isLt
  unfold V
  after_reads_at
  split_ifs
  all_goals first
    | (exfalso; omega)
    | (after_reads_at
       refine congrArg (fun k : Fin 6416 => aW m c (ix3 0 i k)) (Fin.ext ?_)
       unfold src
       dsimp only
       split_ifs <;> omega)

set_option maxHeartbeats 4000000 in
/-- The weights' rows of the gate logits. -/
theorem v30_logit (l : Fin 128) (i : Fin 1024) (h : l.val < 16) :
    (V m c main_v30 : Vec Ideal S6528x1024 .bf16) (ix2 ⟨6400 + l.val, by omega⟩ i) = aW m c (ix3 0 i ⟨2048 + l.val, by omega⟩) := by
  unfold V
  after_reads_at
  split_ifs
  all_goals first
    | (exfalso; omega)
    | skip
  after_reads_at
  split_ifs
  all_goals first
    | (exfalso; omega)
    | skip
  all_goals after_reads_at
  all_goals
    refine congrArg (fun k : Fin 6416 => aW m c (ix3 0 i k)) (Fin.ext ?_)
    dsimp only
    omega

set_option maxHeartbeats 4000000 in
/-- The weights' rows of the padding, zero. -/
theorem v30_pad (l : Fin 128) (i : Fin 1024) (h : ¬ l.val < 16) :
    (V m c main_v30 : Vec Ideal S6528x1024 .bf16) (ix2 ⟨6400 + l.val, by omega⟩ i) = (0 : EReal) := by
  unfold V
  after_reads_at
  split_ifs
  all_goals first
    | (exfalso; omega)
    | skip
  after_reads_at
  split_ifs
  all_goals first
    | (exfalso; omega)
    | skip
  all_goals after_reads_at

end Cert.InprojIdeal.Hand
-- ==== Proof.InprojRun.lean ====
/-
  The input projection kernel's result arrays: the points' output blocks put together, one row of projected columns and one row of
  gate logits per token.
-/
module

public import proofs.«01_k».proof.Proof.InprojHost

@[expose] public section

set_option maxRecDepth 16384

noncomputable section

namespace Cert.InprojIdeal.Hand

open Cert.InprojIdeal Cert.InprojIdeal.Gen Idealize.ShloMosaic Idealize.ShloMosaic.TcCoe Idealize.SL.Sem Cert.MergeMath Cert.InprojMath

variable (m : (ℓ : Loc nD τ sig) → Buf (Elt Ideal) ℓ) (c : Dev nD)

/-- The blocks the windows name at a point: the point's own rows, its part of the sequence's angles. -/
theorem index_facts : ∀ t : Fin grid0.N,
    (win0_0.index t 0 = t.val ∧ win0_0.index t 1 = 0) ∧ (win0_3.index t 0 = t.val % 4 ∧ win0_3.index t 1 = 0)
    ∧ (win0_4.index t 0 = t.val % 4 ∧ win0_4.index t 1 = 0) ∧ (win0_7.index t 0 = t.val ∧ win0_7.index t 1 = 0)
    ∧ (win0_8.index t 0 = t.val ∧ win0_8.index t 1 = 0) := by
  decide +kernel

/-- The weights' windows name the whole array at every point. -/
theorem index_whole : ∀ t : Fin grid0.N,
    (∀ a, win0_1.index t a = 0) ∧ (∀ a, win0_2.index t a = 0) ∧ (∀ a, win0_5.index t a = 0) ∧ (∀ a, win0_6.index t a = 0) := by
  decide +kernel

/-- A point's residual rows. -/
theorem x_apply (t : Fin cfg0.N) (r : Fin 512) (l : Fin 1024) :
    (iblk m c 0 t : Vec Ideal S512x1024 .f32) (ix2 r l)
      = aX m c (ix2 ⟨t.val * 512 + r.val, by have := t.isLt; have : cfg0.N = 64 := N_0; omega⟩ l) := by
  have hi := (index_facts t).1
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 1024 + 1 * l.val = l.val; rw [hi.2]; omega

/-- A point reads the whole norm weights. -/
theorem n_apply (t : Fin cfg0.N) (r : Fin 1) (l : Fin 1024) :
    (iblk m c 1 t : Vec Ideal S1x1024 .f32) (ix2 r l) = (V m c main_v32 : Vec Ideal S1x1024 .f32) (ix2 r l) := by
  have hi := (index_whole t).1
  unfold iblk
  rw [View.read_apply]
  show V m c main_v32 _ = V m c main_v32 _
  congr 1
  funext a
  apply Fin.ext
  match a with
  | ⟨0, _⟩ => show win0_1.index t 0 * 1 + 1 * r.val = r.val; rw [hi 0]; omega
  | ⟨1, _⟩ => show win0_1.index t 1 * 1024 + 1 * l.val = l.val; rw [hi 1]; omega

/-- A point reads the whole weights. -/
theorem w_apply (t : Fin cfg0.N) (r : Fin 6528) (l : Fin 1024) :
    (iblk m c 2 t : Vec Ideal S6528x1024 .bf16) (ix2 r l) = (V m c main_v30 : Vec Ideal S6528x1024 .bf16) (ix2 r l) := by
  have hi := (index_whole t).2.1
  unfold iblk
  rw [View.read_apply]
  show V m c main_v30 _ = V m c main_v30 _
  congr 1
  funext a
  apply Fin.ext
  match a with
  | ⟨0, _⟩ => show win0_2.index t 0 * 6528 + 1 * r.val = r.val; rw [hi 0]; omega
  | ⟨1, _⟩ => show win0_2.index t 1 * 1024 + 1 * l.val = l.val; rw [hi 1]; omega

/-- A point reads the whole queries' norm weights. -/
theorem qw_apply (t : Fin cfg0.N) (r : Fin 1) (l : Fin 128) :
    (iblk m c 5 t : Vec Ideal S1x128 .f32) (ix2 r l) = (V m c main_v37 : Vec Ideal S1x128 .f32) (ix2 r l) := by
  have hi := (index_whole t).2.2.1
  unfold iblk
  rw [View.read_apply]
  show V m c main_v37 _ = V m c main_v37 _
  congr 1
  funext a
  apply Fin.ext
  match a with
  | ⟨0, _⟩ => show win0_5.index t 0 * 1 + 1 * r.val = r.val; rw [hi 0]; omega
  | ⟨1, _⟩ => show win0_5.index t 1 * 128 + 1 * l.val = l.val; rw [hi 1]; omega

/-- A point reads the whole keys' norm weights. -/
theorem kw_apply (t : Fin cfg0.N) (r : Fin 1) (l : Fin 128) :
    (iblk m c 6 t : Vec Ideal S1x128 .f32) (ix2 r l) = (V m c main_v42 : Vec Ideal S1x128 .f32) (ix2 r l) := by
  have hi := (index_whole t).2.2.2
  unfold iblk
  rw [View.read_apply]
  show V m c main_v42 _ = V m c main_v42 _
  congr 1
  funext a
  apply Fin.ext
  match a with
  | ⟨0, _⟩ => show win0_6.index t 0 * 1 + 1 * r.val = r.val; rw [hi 0]; omega
  | ⟨1, _⟩ => show win0_6.index t 1 * 128 + 1 * l.val = l.val; rw [hi 1]; omega

/-- A point's cosines. -/
theorem cos_apply (t : Fin cfg0.N) (r : Fin 512) (l : Fin 128) :
    (iblk m c 3 t : Vec Ideal S512x128 .f32) (ix2 r l) = (V m c main_v4 : Vec Ideal S2048x128 .f32) (ix2 ⟨t.val % 4 * 512 + r.val, by omega⟩ l) := by
  have hi := (index_facts t).2.1
  unfold iblk
  rw [View.read_apply]
  show V m c main_v4 _ = V m c main_v4 _
  congr 1
  funext a
  apply Fin.ext
  match a with
  | ⟨0, _⟩ => show win0_3.index t 0 * 512 + 1 * r.val = t.val % 4 * 512 + r.val; rw [hi.1]; omega
  | ⟨1, _⟩ => show win0_3.index t 1 * 128 + 1 * l.val = l.val; rw [hi.2]; omega

/-- A point's sines. -/
theorem sin_apply (t : Fin cfg0.N) (r : Fin 512) (l : Fin 128) :
    (iblk m c 4 t : Vec Ideal S512x128 .f32) (ix2 r l) = (V m c main_v9 : Vec Ideal S2048x128 .f32) (ix2 ⟨t.val % 4 * 512 + r.val, by omega⟩ l) := by
  have hi := (index_facts t).2.2.1
  unfold iblk
  rw [View.read_apply]
  show V m c main_v9 _ = V m c main_v9 _
  congr 1
  funext a
  apply Fin.ext
  match a with
  | ⟨0, _⟩ => show win0_4.index t 0 * 512 + 1 * r.val = t.val % 4 * 512 + r.val; rw [hi.1]; omega
  | ⟨1, _⟩ => show win0_4.index t 1 * 128 + 1 * l.val = l.val; rw [hi.2]; omega

/-- The projected row of a token. -/
def rowProj (x n : Fin 1024 → EReal) (W : Fin 1024 → Fin 6416 → EReal) (L : Fin 6416) : EReal := dot (rms x n) W L

/-- Lane `l`'s entry of a head's weights, for two heads side by side. -/
abbrev twice (w : Fin 64 → EReal) (l : Fin 128) : EReal := w ⟨l.val % 64, by omega⟩

/-- Lane `l`'s angle: of the row's angles in the first 32 lanes of a head, of the column's in the others. -/
abbrev angle (a : Fin 2 → Fin 16 → EReal) (l : Fin 128) : EReal := a ⟨l.val % 64 / 32, by omega⟩ ⟨l.val % 16, by omega⟩

/-- The array of projected columns. -/
def resultP : S32768x6400.Idx → EReal := fun y =>
  out (fun L => rowProj (row (aX m c) ⟨(y 0).val, (y 0).isLt⟩) (row (aN m c) 0) (fun i k => aW m c (ix3 0 i k)) (src L)) (twice (row (aQ m c) 0)) (twice (row (aK m c) 0))
    (angle fun p d => aC m c (ix3 ⟨(y 0).val % 2048, by omega⟩ p d)) (angle fun p d => aS m c (ix3 ⟨(y 0).val % 2048, by omega⟩ p d)) ⟨(y 1).val, (y 1).isLt⟩

/-- The array of gate logits: 16 columns, the others zero. -/
def resultB : S32768x128.Idx → EReal := fun y =>
  if h : (y 1).val < 16 then rowProj (row (aX m c) ⟨(y 0).val, (y 0).isLt⟩) (row (aN m c) 0) (fun i k => aW m c (ix3 0 i k)) ⟨2048 + (y 1).val, by omega⟩ else 0

/-- A point's normed rows. -/
theorem h_apply (t : Fin cfg0.N) (r : Fin 512) (R : Fin 32768) (hR : R.val = t.val * 512 + r.val) :
    row (k0_pay1 (F := Ideal) (iblk m c 0 t) (iblk m c 1 t)) r = rms (row (aX m c) R) (row (aN m c) 0) := by
  funext i
  refine (pay1_apply _ _ r i).trans ?_
  have e : (⟨t.val * 512 + r.val, by have := t.isLt; have : cfg0.N = 64 := N_0; omega⟩ : Fin 32768) = R := Fin.ext hR.symm
  have ex : row (iblk m c 0 t : Vec Ideal S512x1024 .f32) r = row (aX m c) R := funext fun l => by rw [← e]; exact x_apply m c t r l
  have en : row (iblk m c 1 t : Vec Ideal S1x1024 .f32) 0 = row (aN m c) 0 := funext fun l => (n_apply m c t 0 l).trans (v32_apply m c l)
  exact congrArg₂ (fun a b => rms a b i) ex en

/-- What a point writes back of the projected columns is its block of that array. -/
theorem flushed7_eq (t : Fin cfg0.N) :
    (dats m 0 c).flushed 7 t = ((cfg0.win 7).blk t).view.read (Elt Ideal) (resultP m c) := by
  have hN : cfg0.N = 64 := N_0
  have ht := t.isLt
  have hi := (index_facts t).2.2.2.1
  rw [Value.flushed7]
  funext i
  obtain ⟨r, col, rfl⟩ : ∃ (r : Fin 512) (col : Fin 6400), i = ix2 r col := ⟨_, _, eq_ix2 i⟩
  rw [View.read_apply]
  have e : ((cfg0.win 7).blk t).view.emb (ix2 r col) = ix2 (⟨t.val * 512 + r.val, by omega⟩ : Fin 32768) col := by
    funext a
    apply Fin.ext
    match a with
    | ⟨0, _⟩ => show win0_7.index t 0 * 512 + 1 * r.val = _; rw [hi.1]; simp only [Nat.one_mul]; rfl
    | ⟨1, _⟩ => show win0_7.index t 1 * 6400 + 1 * col.val = _; rw [hi.2]; simp only [Nat.one_mul, Nat.zero_mul, Nat.zero_add]; rfl
  rw [e]
  refine (out7_eq _ _ _ _ _ _ _ (ix2 r col)).trans ?_
  unfold block resultP rowProj
  have hR : t.val * 512 + r.val < 32768 := by omega
  have eh := h_apply m c t r ⟨t.val * 512 + r.val, hR⟩ rfl
  have em : (⟨t.val % 4 * 512 + r.val, by omega⟩ : Fin 2048) = ⟨(t.val * 512 + r.val) % 2048, by omega⟩ := Fin.ext (by dsimp only; omega)
  have ep : (fun L : Fin 6400 => tdot (row (k0_pay1 (F := Ideal) (iblk m c 0 t) (iblk m c 1 t)) r) (row (iblk m c 2 t : Vec Ideal S6528x1024 .bf16)) ⟨L.val, by omega⟩)
      = fun L => dot (rms (row (aX m c) ⟨t.val * 512 + r.val, hR⟩) (row (aN m c) 0)) (fun i k => aW m c (ix3 0 i k)) (src L) := funext fun L => by
    rw [eh]
    unfold tdot dot
    exact Finset.sum_congr rfl fun i _ => congrArg₂ (· * ·) rfl ((w_apply m c t _ i).trans (v30_apply m c L i))
  have eq : row (iblk m c 5 t : Vec Ideal S1x128 .f32) 0 = twice (row (aQ m c) 0) := funext fun l => (qw_apply m c t 0 l).trans (v37_apply m c l)
  have ek : row (iblk m c 6 t : Vec Ideal S1x128 .f32) 0 = twice (row (aK m c) 0) := funext fun l => (kw_apply m c t 0 l).trans (v42_apply m c l)
  have ec : row (iblk m c 3 t : Vec Ideal S512x128 .f32) r = angle fun p d => aC m c (ix3 ⟨(t.val * 512 + r.val) % 2048, by omega⟩ p d) := funext fun l => by
    refine (cos_apply m c t r l).trans ((v4_apply m c _ l).trans ?_)
    rw [em]
  have es : row (iblk m c 4 t : Vec Ideal S512x128 .f32) r = angle fun p d => aS m c (ix3 ⟨(t.val * 512 + r.val) % 2048, by omega⟩ p d) := funext fun l => by
    refine (sin_apply m c t r l).trans ((v9_apply m c _ l).trans ?_)
    rw [em]
  have hg : ∀ p p' q q' k k' c c' s s', p = p' → q = q' → k = k' → c = c' → s = s' → out p q k c s col = out p' q' k' c' s' col := by
    rintro _ _ _ _ _ _ _ _ _ _ rfl rfl rfl rfl rfl; rfl
  exact hg _ _ _ _ _ _ _ _ _ _ ep eq ek ec es

/-- What a point writes back of the gate logits is its block of that array. -/
theorem flushed8_eq (t : Fin cfg0.N) :
    (dats m 0 c).flushed 8 t = ((cfg0.win 8).blk t).view.read (Elt Ideal) (resultB m c) := by
  have hN : cfg0.N = 64 := N_0
  have ht := t.isLt
  have hi := (index_facts t).2.2.2.2
  rw [Value.flushed8]
  funext i
  obtain ⟨r, col, rfl⟩ : ∃ (r : Fin 512) (col : Fin 128), i = ix2 r col := ⟨_, _, eq_ix2 i⟩
  rw [View.read_apply]
  have e : ((cfg0.win 8).blk t).view.emb (ix2 r col) = ix2 (⟨t.val * 512 + r.val, by omega⟩ : Fin 32768) col := by
    funext a
    apply Fin.ext
    match a with
    | ⟨0, _⟩ => show win0_8.index t 0 * 512 + 1 * r.val = _; rw [hi.1]; simp only [Nat.one_mul]; rfl
    | ⟨1, _⟩ => show win0_8.index t 1 * 128 + 1 * col.val = _; rw [hi.2]; simp only [Nat.one_mul, Nat.zero_mul, Nat.zero_add]; rfl
  rw [e]
  refine (out8_apply _ _ _ _ _ _ _ r col).trans ?_
  have hR : t.val * 512 + r.val < 32768 := by omega
  rw [h_apply m c t r ⟨t.val * 512 + r.val, hR⟩ rfl]
  unfold resultB rowProj tdot dot
  by_cases h : col.val < 16
  · refine Eq.trans ?_ (dif_pos h).symm
    exact Finset.sum_congr rfl fun i _ => congrArg₂ (· * ·) rfl ((w_apply m c t _ i).trans (v30_logit m c col i h))
  · refine Eq.trans ?_ (dif_neg h).symm
    exact Finset.sum_eq_zero fun i _ => (congrArg₂ (· * ·) rfl ((w_apply m c t _ i).trans (v30_pad m c col i h))).trans (mul_zero _)

/-- Every index lies in some point's block. -/
theorem cover7 (i : S32768x6400.Idx) : ∃ t : Fin cfg0.N, (cfg0.win 7).flush t = true ∧ i ∈ ((cfg0.win 7).blk t).view.set := by
  have hN : cfg0.N = 64 := N_0
  have h0 : (i 0 : Nat) < 32768 := (i 0).isLt
  have h1 : (i 1 : Nat) < 6400 := (i 1).isLt
  refine ⟨⟨(i 0).val / 512, by omega⟩, flush0_7 _, ?_⟩
  have hi := (index_facts ⟨(i 0).val / 512, by show _ < cfg0.N; omega⟩).2.2.2.1
  dsimp only at hi
  generalize ht : (⟨(i 0).val / 512, _⟩ : Fin cfg0.N) = t at hi ⊢
  show i ∈ ((View.whole main_v43_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [hi.1]; omega
  | ⟨1, _⟩ => show win0_7.index t 1 * 6400 ≤ (i 1 : Nat) ∧ (i 1 : Nat) < win0_7.index t 1 * 6400 + 6400
              rw [hi.2]; omega

/-- So the result array ends holding it. -/
theorem final7 : (dats m 0 c).arrAt 7 cfg0.N = resultP m c :=
  (dats m 0 c).arrAt_eq_of_cover 7 (resultP m c) (fun t _ => flushed7_eq m c t) cover7

/-- Every index lies in some point's block. -/
theorem cover8 (i : S32768x128.Idx) : ∃ t : Fin cfg0.N, (cfg0.win 8).flush t = true ∧ i ∈ ((cfg0.win 8).blk t).view.set := by
  have hN : cfg0.N = 64 := N_0
  have h0 : (i 0 : Nat) < 32768 := (i 0).isLt
  have h1 : (i 1 : Nat) < 128 := (i 1).isLt
  refine ⟨⟨(i 0).val / 512, by omega⟩, flush0_8 _, ?_⟩
  have hi := (index_facts ⟨(i 0).val / 512, by show _ < cfg0.N; omega⟩).2.2.2.2
  dsimp only at hi
  generalize ht : (⟨(i 0).val / 512, _⟩ : Fin cfg0.N) = t at hi ⊢
  show i ∈ ((View.whole main_v43_1).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512
              rw [hi.1]; omega
  | ⟨1, _⟩ => show win0_8.index t 1 * 128 ≤ (i 1 : Nat) ∧ (i 1 : Nat) < win0_8.index t 1 * 128 + 128
              rw [hi.2]; omega

/-- So the result array ends holding it. -/
theorem final8 : (dats m 0 c).arrAt 8 cfg0.N = resultB m c :=
  (dats m 0 c).arrAt_eq_of_cover 8 (resultB m c) (fun t _ => flushed8_eq m c t) cover8

end Cert.InprojIdeal.Hand

end
-- ==== Proof.InprojRef.lean ====
/-
  The input projection's mathematics (`InprojRefIdeal`), read at an index, and its equality with the kernel's rows.
-/
module

public import proofs.«01_k».proof.Proof.InprojMath
public import proofs.«01_k».proof.Proof.Gen.InprojRefIdeal.Read

@[expose] public section

set_option maxRecDepth 16384

noncomputable section

namespace Cert.InprojRefIdeal.Hand

open Cert.InprojRefIdeal Cert.InprojRefIdeal.Gen Cert.InprojRefIdeal.Read Idealize.ShloMosaic Cert.MergeMath Cert.InprojMath

variable (x0 : Vec Ideal S32768x1024 .f32) (x1 : Vec Ideal S1x1024 .f32) (x2 : Vec Ideal S1x1024x6416 .f32) (x3 x4 : Vec Ideal S1x64 .f32)
  (x5 x6 : Vec Ideal S2048x2x16 .f32)

/-- The projected columns. -/
theorem proj (R : Fin 32768) (L : Fin 6416) :
    val_main_v15 (F := Ideal) x0 x1 x2 (ix2 R L) = dot (rms (fun i => x0 (ix2 R i)) (fun i => x1 (ix2 0 i))) (fun i k => x2 (ix3 0 i k)) L := by
  unfold dot rms
  pointwise [val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0, val_main_cst_1]

/-- A query head's columns. -/
theorem q_col (b : Fin 16) (t : Fin 2048) (h : Fin 8) (k : Fin 64) :
    val_main_v23 (F := Ideal) x0 x1 x2 (ix4 b t h k) = val_main_v15 (F := Ideal) x0 x1 x2 (ix2 ⟨b.val * 2048 + t.val, by omega⟩ ⟨2064 + (h.val * 64 + k.val), by omega⟩) := by
  unfold val_main_v23 val_main_v18
  generalize val_main_v15 (F := Ideal) x0 x1 x2 = y
  pointwise []

/-- A query head, normed. -/
theorem q_normed (b : Fin 16) (t : Fin 2048) (h : Fin 8) (d : Fin 64) :
    val_main_v37 (F := Ideal) x0 x1 x2 x3 (ix4 b t h d) = normed (fun k => val_main_v23 (F := Ideal) x0 x1 x2 (ix4 b t h k)) (fun k => x3 (ix2 0 k)) d := by
  unfold normed val_main_v37 val_main_v34 val_main_v33 val_main_v32 val_main_v31 val_main_v29 val_main_v27 val_main_v26 val_main_v25
  generalize val_main_v23 (F := Ideal) x0 x1 x2 = y
  pointwise [val_main_v36, val_main_v35, val_main_v24, val_main_v30, val_main_v28, val_main_cst_2, val_main_cst_3, val_main_cst_4]

/-- The first 16 coordinates of a query head's run of 32. -/
theorem q_lo (b : Fin 16) (t : Fin 2048) (h : Fin 8) (a : Fin 2) (q : Fin 16) :
    val_main_v40 (F := Ideal) x0 x1 x2 x3 (ix5 b t h a q) = val_main_v37 (F := Ideal) x0 x1 x2 x3 (ix4 b t h ⟨a.val * 32 + q.val, by omega⟩) := by
  unfold val_main_v40 val_main_v39 val_main_v38
  generalize val_main_v37 (F := Ideal) x0 x1 x2 x3 = y
  pointwise []

/-- The other 16. -/
theorem q_hi (b : Fin 16) (t : Fin 2048) (h : Fin 8) (a : Fin 2) (q : Fin 16) :
    val_main_v42 (F := Ideal) x0 x1 x2 x3 (ix5 b t h a q) = val_main_v37 (F := Ideal) x0 x1 x2 x3 (ix4 b t h ⟨a.val * 32 + (16 + q.val), by omega⟩) := by
  unfold val_main_v42 val_main_v41 val_main_v38
  generalize val_main_v37 (F := Ideal) x0 x1 x2 x3 = y
  pointwise []
  exact congrArg (fun k : Fin 64 => y (ix4 b t h k)) (Fin.ext (by dsimp only; omega))

/-- The first 16, turned. -/
theorem q_turn_lo (b : Fin 16) (t : Fin 2048) (h : Fin 8) (a : Fin 2) (q : Fin 16) :
    val_main_v49 (F := Ideal) x0 x1 x2 x3 x5 x6 (ix5 b t h a q)
      = val_main_v40 (F := Ideal) x0 x1 x2 x3 (ix5 b t h a q) * x5 (ix3 t a q) - val_main_v42 (F := Ideal) x0 x1 x2 x3 (ix5 b t h a q) * x6 (ix3 t a q) := by
  unfold val_main_v49 val_main_v48 val_main_v47 val_main_v46 val_main_v45 val_main_v44 val_main_v43
  generalize val_main_v40 (F := Ideal) x0 x1 x2 x3 = y
  generalize val_main_v42 (F := Ideal) x0 x1 x2 x3 = z
  pointwise []

/-- The other 16, turned. -/
theorem q_turn_hi (b : Fin 16) (t : Fin 2048) (h : Fin 8) (a : Fin 2) (q : Fin 16) :
    val_main_v54 (F := Ideal) x0 x1 x2 x3 x5 x6 (ix5 b t h a q)
      = val_main_v42 (F := Ideal) x0 x1 x2 x3 (ix5 b t h a q) * x5 (ix3 t a q) + val_main_v40 (F := Ideal) x0 x1 x2 x3 (ix5 b t h a q) * x6 (ix3 t a q) := by
  unfold val_main_v54 val_main_v53 val_main_v52 val_main_v51 val_main_v50 val_main_v44 val_main_v43
  generalize val_main_v40 (F := Ideal) x0 x1 x2 x3 = y
  generalize val_main_v42 (F := Ideal) x0 x1 x2 x3 = z
  pointwise []

/-- The two put together. -/
theorem q_turn (b : Fin 16) (t : Fin 2048) (h : Fin 8) (d : Fin 64) :
    val_main_v58 (F := Ideal) x0 x1 x2 x3 x5 x6 (ix4 b t h d)
      = if d.val / 16 % 2 < 1 then val_main_v49 (F := Ideal) x0 x1 x2 x3 x5 x6 (ix5 b t h ⟨d.val / 32, by omega⟩ ⟨d.val % 16, by omega⟩)
        else val_main_v54 (F := Ideal) x0 x1 x2 x3 x5 x6 (ix5 b t h ⟨d.val / 32, by omega⟩ ⟨d.val % 16, by omega⟩) := by
  unfold val_main_v58 val_main_v57 val_main_v55 val_main_v56
  generalize val_main_v49 (F := Ideal) x0 x1 x2 x3 x5 x6 = y
  generalize val_main_v54 (F := Ideal) x0 x1 x2 x3 x5 x6 = z
  pointwise []
  rfl

/-- A query head, normed and rotated. -/
theorem q_rope (b : Fin 16) (t : Fin 2048) (h : Fin 8) (d : Fin 64) :
    val_main_v58 (F := Ideal) x0 x1 x2 x3 x5 x6 (ix4 b t h d)
      = rope (fun k => val_main_v15 (F := Ideal) x0 x1 x2 (ix2 ⟨b.val * 2048 + t.val, by omega⟩ ⟨2064 + (h.val * 64 + k.val), by omega⟩)) (fun k => x3 (ix2 0 k))
        (fun k => x5 (ix3 t ⟨k.val / 32, by omega⟩ ⟨k.val % 16, by omega⟩)) (fun k => x6 (ix3 t ⟨k.val / 32, by omega⟩ ⟨k.val % 16, by omega⟩)) d := by
  have hd := d.isLt
  have hc : (fun k => val_main_v23 (F := Ideal) x0 x1 x2 (ix4 b t h k))
      = fun k => val_main_v15 (F := Ideal) x0 x1 x2 (ix2 ⟨b.val * 2048 + t.val, by omega⟩ ⟨2064 + (h.val * 64 + k.val), by omega⟩) := funext fun k => q_col x0 x1 x2 b t h k
  rw [q_turn]
  unfold rope
  by_cases hl : d.val % 32 < 16
  · rw [if_pos hl, if_pos (by omega), q_turn_lo, q_lo, q_hi, q_normed, q_normed, hc]
    exact congrArg₂ (· - ·) (congrArg₂ (· * ·) (congrArg _ (Fin.ext (by dsimp only; omega))) rfl)
      (congrArg₂ (· * ·) (congrArg _ (Fin.ext (by dsimp only; omega))) rfl)
  · rw [if_neg hl, if_neg (by omega), q_turn_hi, q_lo, q_hi, q_normed, q_normed, hc]
    exact congrArg₂ (· + ·) (congrArg₂ (· * ·) (congrArg _ (Fin.ext (by dsimp only; omega))) rfl)
      (congrArg₂ (· * ·) (congrArg _ (Fin.ext (by dsimp only; omega))) rfl)

/-- A key head's columns. -/
theorem k_col (b : Fin 16) (t : Fin 2048) (h : Fin 2) (k : Fin 64) :
    val_main_v59 (F := Ideal) x0 x1 x2 (ix4 b t h k) = val_main_v15 (F := Ideal) x0 x1 x2 (ix2 ⟨b.val * 2048 + t.val, by omega⟩ ⟨2576 + (h.val * 64 + k.val), by omega⟩) := by
  unfold val_main_v59 val_main_v19
  generalize val_main_v15 (F := Ideal) x0 x1 x2 = y
  pointwise []

/-- A key head, normed. -/
theorem k_normed (b : Fin 16) (t : Fin 2048) (h : Fin 2) (d : Fin 64) :
    val_main_v73 (F := Ideal) x0 x1 x2 x4 (ix4 b t h d) = normed (fun k => val_main_v59 (F := Ideal) x0 x1 x2 (ix4 b t h k)) (fun k => x4 (ix2 0 k)) d := by
  unfold normed val_main_v73 val_main_v70 val_main_v69 val_main_v68 val_main_v67 val_main_v65 val_main_v63 val_main_v62 val_main_v61
  generalize val_main_v59 (F := Ideal) x0 x1 x2 = y
  pointwise [val_main_v72, val_main_v71, val_main_v60, val_main_v66, val_main_v64, val_main_cst_5, val_main_cst_6, val_main_cst_7]

/-- The first 16 coordinates of a key head's run of 32. -/
theorem k_lo (b : Fin 16) (t : Fin 2048) (h : Fin 2) (a : Fin 2) (q : Fin 16) :
    val_main_v76 (F := Ideal) x0 x1 x2 x4 (ix5 b t h a q) = val_main_v73 (F := Ideal) x0 x1 x2 x4 (ix4 b t h ⟨a.val * 32 + q.val, by omega⟩) := by
  unfold val_main_v76 val_main_v75 val_main_v74
  generalize val_main_v73 (F := Ideal) x0 x1 x2 x4 = y
  pointwise []

/-- The other 16. -/
theorem k_hi (b : Fin 16) (t : Fin 2048) (h : Fin 2) (a : Fin 2) (q : Fin 16) :
    val_main_v78 (F := Ideal) x0 x1 x2 x4 (ix5 b t h a q) = val_main_v73 (F := Ideal) x0 x1 x2 x4 (ix4 b t h ⟨a.val * 32 + (16 + q.val), by omega⟩) := by
  unfold val_main_v78 val_main_v77 val_main_v74
  generalize val_main_v73 (F := Ideal) x0 x1 x2 x4 = y
  pointwise []
  exact congrArg (fun k : Fin 64 => y (ix4 b t h k)) (Fin.ext (by dsimp only; omega))

/-- The first 16, turned. -/
theorem k_turn_lo (b : Fin 16) (t : Fin 2048) (h : Fin 2) (a : Fin 2) (q : Fin 16) :
    val_main_v85 (F := Ideal) x0 x1 x2 x4 x5 x6 (ix5 b t h a q)
      = val_main_v76 (F := Ideal) x0 x1 x2 x4 (ix5 b t h a q) * x5 (ix3 t a q) - val_main_v78 (F := Ideal) x0 x1 x2 x4 (ix5 b t h a q) * x6 (ix3 t a q) := by
  unfold val_main_v85 val_main_v84 val_main_v83 val_main_v82 val_main_v81 val_main_v80 val_main_v79
  generalize val_main_v76 (F := Ideal) x0 x1 x2 x4 = y
  generalize val_main_v78 (F := Ideal) x0 x1 x2 x4 = z
  pointwise []

/-- The other 16, turned. -/
theorem k_turn_hi (b : Fin 16) (t : Fin 2048) (h : Fin 2) (a : Fin 2) (q : Fin 16) :
    val_main_v90 (F := Ideal) x0 x1 x2 x4 x5 x6 (ix5 b t h a q)
      = val_main_v78 (F := Ideal) x0 x1 x2 x4 (ix5 b t h a q) * x5 (ix3 t a q) + val_main_v76 (F := Ideal) x0 x1 x2 x4 (ix5 b t h a q) * x6 (ix3 t a q) := by
  unfold val_main_v90 val_main_v89 val_main_v88 val_main_v87 val_main_v86 val_main_v80 val_main_v79
  generalize val_main_v76 (F := Ideal) x0 x1 x2 x4 = y
  generalize val_main_v78 (F := Ideal) x0 x1 x2 x4 = z
  pointwise []

/-- The two put together. -/
theorem k_turn (b : Fin 16) (t : Fin 2048) (h : Fin 2) (d : Fin 64) :
    val_main_v94 (F := Ideal) x0 x1 x2 x4 x5 x6 (ix4 b t h d)
      = if d.val / 16 % 2 < 1 then val_main_v85 (F := Ideal) x0 x1 x2 x4 x5 x6 (ix5 b t h ⟨d.val / 32, by omega⟩ ⟨d.val % 16, by omega⟩)
        else val_main_v90 (F := Ideal) x0 x1 x2 x4 x5 x6 (ix5 b t h ⟨d.val / 32, by omega⟩ ⟨d.val % 16, by omega⟩) := by
  unfold val_main_v94 val_main_v93 val_main_v91 val_main_v92
  generalize val_main_v85 (F := Ideal) x0 x1 x2 x4 x5 x6 = y
  generalize val_main_v90 (F := Ideal) x0 x1 x2 x4 x5 x6 = z
  pointwise []
  rfl

/-- A key head, normed and rotated. -/
theorem k_rope (b : Fin 16) (t : Fin 2048) (h : Fin 2) (d : Fin 64) :
    val_main_v94 (F := Ideal) x0 x1 x2 x4 x5 x6 (ix4 b t h d)
      = rope (fun k => val_main_v15 (F := Ideal) x0 x1 x2 (ix2 ⟨b.val * 2048 + t.val, by omega⟩ ⟨2576 + (h.val * 64 + k.val), by omega⟩)) (fun k => x4 (ix2 0 k))
        (fun k => x5 (ix3 t ⟨k.val / 32, by omega⟩ ⟨k.val % 16, by omega⟩)) (fun k => x6 (ix3 t ⟨k.val / 32, by omega⟩ ⟨k.val % 16, by omega⟩)) d := by
  have hd := d.isLt
  have hc : (fun k => val_main_v59 (F := Ideal) x0 x1 x2 (ix4 b t h k))
      = fun k => val_main_v15 (F := Ideal) x0 x1 x2 (ix2 ⟨b.val * 2048 + t.val, by omega⟩ ⟨2576 + (h.val * 64 + k.val), by omega⟩) := funext fun k => k_col x0 x1 x2 b t h k
  rw [k_turn]
  unfold rope
  by_cases hl : d.val % 32 < 16
  · rw [if_pos hl, if_pos (by omega), k_turn_lo, k_lo, k_hi, k_normed, k_normed, hc]
    exact congrArg₂ (· - ·) (congrArg₂ (· * ·) (congrArg _ (Fin.ext (by dsimp only; omega))) rfl)
      (congrArg₂ (· * ·) (congrArg _ (Fin.ext (by dsimp only; omega))) rfl)
  · rw [if_neg hl, if_neg (by omega), k_turn_hi, k_lo, k_hi, k_normed, k_normed, hc]
    exact congrArg₂ (· + ·) (congrArg₂ (· * ·) (congrArg _ (Fin.ext (by dsimp only; omega))) rfl)
      (congrArg₂ (· * ·) (congrArg _ (Fin.ext (by dsimp only; omega))) rfl)

/-- The scale's two steps, at any value: times `1 / 8`, divided by `log 2`. -/
theorem scaled (x : EReal) :
    Ideal.div (x * Ideal.ofBits .f32 0x3E000000#32) (Ideal.log (Ideal.ofBits .f32 0x40000000#32)) = x * ((InprojMath.scale : ℝ) : EReal) := by
  have h8 : Ideal.ofBits .f32 0x3E000000#32 = ((8⁻¹ : ℝ) : EReal) := by
    simp only [Ideal.ofBits, Ideal.ieee]; simp; rw [← EReal.coe_mul]; norm_num
  have h2 : Ideal.ofBits .f32 0x40000000#32 = ((2 : ℝ) : EReal) := by
    simp only [Ideal.ofBits, Ideal.ieee]; simp; rw [← EReal.coe_mul]; norm_num
  have hl : Ideal.log ((2 : ℝ) : EReal) = ((Real.log 2 : ℝ) : EReal) := by
    rw [Ideal.log_coe, if_neg (by norm_num)]
  rw [h8, h2, hl, Ideal.div_coe (Real.log_pos (by norm_num)).ne', mul_assoc, ← EReal.coe_mul, one_div]
  rfl

/-- The scaled queries' columns. -/
theorem v100_apply (R : Fin 32768) (j : Fin 512) :
    val_main_v100 (F := Ideal) x0 x1 x2 x3 x5 x6 (ix2 R j)
      = val_main_v58 (F := Ideal) x0 x1 x2 x3 x5 x6 (ix4 ⟨R.val / 2048, by omega⟩ ⟨R.val % 2048, by omega⟩ ⟨j.val / 64, by omega⟩ ⟨j.val % 64, by omega⟩)
        * ((InprojMath.scale : ℝ) : EReal) := by
  refine Eq.trans ?_ (scaled _)
  unfold val_main_v100 val_main_v99 val_main_v96
  generalize val_main_v58 (F := Ideal) x0 x1 x2 x3 x5 x6 = y
  pointwise [val_main_v98, val_main_v97, val_main_v95, val_main_cst_8, val_main_cst_9]

/-- The keys' columns. -/
theorem v101_apply (R : Fin 32768) (j : Fin 128) :
    val_main_v101 (F := Ideal) x0 x1 x2 x4 x5 x6 (ix2 R j)
      = val_main_v94 (F := Ideal) x0 x1 x2 x4 x5 x6 (ix4 ⟨R.val / 2048, by omega⟩ ⟨R.val % 2048, by omega⟩ ⟨j.val / 64, by omega⟩ ⟨j.val % 64, by omega⟩) := by
  unfold val_main_v101
  generalize val_main_v94 (F := Ideal) x0 x1 x2 x4 x5 x6 = y
  pointwise []

/-- The columns put together, by range. -/
theorem v105_apply (R : Fin 32768) (L : Fin 6400) :
    val_main_v105 (F := Ideal) x0 x1 x2 x3 x4 x5 x6 (ix2 R L)
      = if 5120 ≤ L.val ∧ L.val < 5632 then val_main_v100 (F := Ideal) x0 x1 x2 x3 x5 x6 (ix2 R ⟨(L.val - 5120) % 512, by omega⟩)
        else if 6144 ≤ L.val ∧ L.val < 6272 then val_main_v101 (F := Ideal) x0 x1 x2 x4 x5 x6 (ix2 R ⟨(L.val - 6144) % 128, by omega⟩)
        else val_main_v15 (F := Ideal) x0 x1 x2 (ix2 R (src L)) := by
  have hL := L.isLt
  unfold val_main_v105 val_main_v102 val_main_v22 val_main_v16 val_main_v21 val_main_v20
  generalize val_main_v100 (F := Ideal) x0 x1 x2 x3 x5 x6 = y
  generalize val_main_v101 (F := Ideal) x0 x1 x2 x4 x5 x6 = z
  generalize val_main_v15 (F := Ideal) x0 x1 x2 = p
  pointwise []
  by_cases hq : 5120 ≤ L.val ∧ L.val < 5632
  · rw [if_pos hq, dif_neg (by omega : ¬ L.val < 3072), dif_neg (by omega : ¬ L.val - 3072 < 2048), dif_pos (by omega : L.val - 3072 - 2048 < 512)]
    exact congrArg (fun k : Fin 512 => y (ix2 R k)) (Fin.ext (by dsimp only; omega))
  rw [if_neg hq]
  by_cases hk : 6144 ≤ L.val ∧ L.val < 6272
  · rw [if_pos hk, dif_neg (by omega : ¬ L.val < 3072), dif_neg (by omega : ¬ L.val - 3072 < 2048), dif_neg (by omega : ¬ L.val - 3072 - 2048 < 512),
      dif_neg (by omega : ¬ L.val - 3072 - 2048 - 512 < 512), dif_pos (by omega : L.val - 3072 - 2048 - 512 - 512 < 128)]
    exact congrArg (fun k : Fin 128 => z (ix2 R k)) (Fin.ext (by dsimp only; omega))
  rw [if_neg hk]
  split_ifs
  all_goals first
    | (exfalso; omega)
    | (refine congrArg (fun k : Fin 6416 => p (ix2 R k)) (Fin.ext ?_)
       unfold src
       dsimp only
       split_ifs <;> omega)

/-- The gate logits' columns. -/
theorem v104_apply (R : Fin 32768) (l : Fin 128) :
    val_main_v104 (F := Ideal) x0 x1 x2 (ix2 R l)
      = if h : l.val < 16 then val_main_v15 (F := Ideal) x0 x1 x2 (ix2 R ⟨2048 + l.val, by omega⟩) else (0 : EReal) := by
  unfold val_main_v104 val_main_v17
  generalize val_main_v15 (F := Ideal) x0 x1 x2 = p
  pointwise [val_main_v103, val_main_cst_10]

end Cert.InprojRefIdeal.Hand

end
-- ==== Proof.InprojClaims.lean ====
/-
  The claims about the input projection: its runs, its named constant, and the kernel's two result arrays against the
  mathematics'.
-/
module

public import proofs.«01_k».proof.Defs
public import proofs.«01_k».proof.Proof.InprojRun
public import proofs.«01_k».proof.Proof.InprojRef
public import proofs.«01_k».proof.Proof.Gen.Inproj.Frame
public import proofs.«01_k».proof.Proof.Gen.InprojIdeal.Frame
public import proofs.«01_k».proof.Proof.Gen.InprojRefIdeal.Run
public import Idealize.ShloMosaic.Lib.Quiescent

@[expose] public section

set_option maxRecDepth 16384

noncomputable section

open Idealize.ShloMosaic Idealize.ShloMosaic.TcCoe Idealize.SL.Sem Cert.MergeMath Cert.InprojMath
open Cert.InprojIdeal.Hand (row aX aN aW aQ aK aC aS rowProj twice angle resultP resultB)
open Cert.InprojRefIdeal.Read (val_main_v15 val_main_v104 val_main_v105)

namespace Cert.Proof.InprojClaims

/-- The kernel runs, its arguments unchanged. -/
theorem frame_p : Cert.quiescent_Inproj (hInproj := Cert.Inproj.Gen.facts) := fun m ρ _ => Cert.Inproj.Gen.frame m ρ

/-- Its idealization runs, its arguments unchanged. -/
theorem frame_pi : Cert.quiescent_InprojIdeal (hInprojIdeal := Cert.InprojIdeal.Gen.facts) := fun m ρ _ => Cert.InprojIdeal.Gen.frame m ρ

/-- The mathematics runs, its arguments unchanged. -/
theorem frame_ri : Cert.quiescent_InprojRefIdeal (hInprojRefIdeal := Cert.InprojRefIdeal.Gen.facts) := fun m ρ _ =>
  (θ_run Cert.InprojRefIdeal.defs _ _).mono (fun r h => ⟨fun c => (h c).2.2, Idealize.ShloMosaic.sem_eq_zero_of_no_sems (by decide) r.2⟩)
    (Cert.InprojRefIdeal.Value.run (F := Ideal) m ρ)

/-- The idealization's one rewrite: the queries' scale by its name, which stands for the constant's ideal value. -/
theorem preserves : Cert.preserves_Inproj_InprojIdeal :=
  IdealRules.named_const.statement Cert.InprojIdeal.κ "q_scale" .f32 0x3E38AA3B#32 ((8⁻¹ * (Real.log 2)⁻¹ : ℝ) : EReal) rfl

variable (m : (ℓ : Loc Cert.InprojIdeal.nD Cert.InprojIdeal.τ Cert.InprojIdeal.sig) → Buf (Elt Ideal) ℓ) (c : Dev Cert.InprojIdeal.nD)

/-- A projected column of the mathematics, of the kernel's arguments. -/
theorem column (R R' : Fin 32768) (L L' : Fin 6416) (hR : R' = R) (hL : L' = L) :
    val_main_v15 (F := Ideal) (aX m c) (aN m c) (aW m c) (ix2 R' L')
      = rowProj (row (aX m c) R) (row (aN m c) 0) (fun i k => aW m c (ix3 0 i k)) L := by
  subst hR hL
  exact Cert.InprojRefIdeal.Hand.proj _ _ _ R' L'

/-- Equal heads, normed and rotated, are equal. -/
theorem rope_congr {x x' w w' a a' s s' : Fin 64 → EReal} {d d' : Fin 64} (hx : x = x') (hw : w = w') (ha : a = a') (hs : s = s')
    (hd : d = d') : rope x w a s d = rope x' w' a' s' d' := by
  subst hx hw ha hs hd; rfl

/-- An angle of a lane's head. -/
theorem angle_lanes (a : Fin 2 → Fin 16 → EReal) (l : Fin 128) : (fun k : Fin 64 => a ⟨k.val / 32, by omega⟩ ⟨k.val % 16, by omega⟩) = lanes (angle a) l := by
  funext k
  show _ = a ⟨(l.val / 64 * 64 + k.val) % 64 / 32, _⟩ ⟨(l.val / 64 * 64 + k.val) % 16, _⟩
  exact congrArg₂ a (Fin.ext (by dsimp only; omega)) (Fin.ext (by dsimp only; omega))

/-- A weight of a lane's head. -/
theorem twice_lanes (w : Fin 64 → EReal) (l : Fin 128) : w = lanes (twice w) l := by
  funext k
  show _ = w ⟨(l.val / 64 * 64 + k.val) % 64, _⟩
  exact congrArg w (Fin.ext (by dsimp only; omega))

/-- The mathematics' projected columns of the kernel's arguments are the array the kernel leaves. -/
theorem valueP : val_main_v105 (F := Ideal) (aX m c) (aN m c) (aW m c) (aQ m c) (aK m c) (aC m c) (aS m c) = resultP m c := by
  funext y
  obtain ⟨R, L, rfl⟩ : ∃ (R : Fin 32768) (L : Fin 6400), y = ix2 R L := ⟨_, _, Cert.InprojIdeal.Hand.eq_ix2 y⟩
  have hR := R.isLt
  have hL := L.isLt
  refine (Cert.InprojRefIdeal.Hand.v105_apply _ _ _ _ _ _ _ R L).trans ?_
  show _ = out (fun L => rowProj (row (aX m c) R) (row (aN m c) 0) (fun i k => aW m c (ix3 0 i k)) (src L)) (twice (row (aQ m c) 0))
    (twice (row (aK m c) 0)) (angle fun p d => aC m c (ix3 ⟨R.val % 2048, by omega⟩ p d)) (angle fun p d => aS m c (ix3 ⟨R.val % 2048, by omega⟩ p d)) L
  unfold out
  by_cases hq : 5120 ≤ L.val ∧ L.val < 5632
  · rw [if_pos hq, if_pos hq, Cert.InprojRefIdeal.Hand.v100_apply, Cert.InprojRefIdeal.Hand.q_rope]
    unfold rope2
    refine congrArg₂ (· * ·) (rope_congr (funext fun k => ?_) (twice_lanes _ _) (angle_lanes (fun p d => aC m c (ix3 ⟨R.val % 2048, by omega⟩ p d)) _)
      (angle_lanes (fun p d => aS m c (ix3 ⟨R.val % 2048, by omega⟩ p d)) _) (Fin.ext ?_)) rfl
    · have hk := k.isLt
      refine column m c R _ _ _ (Fin.ext (by dsimp only; omega)) (Fin.ext ?_)
      unfold src
      dsimp only
      split_ifs <;> omega
    · dsimp only; omega
  rw [if_neg hq, if_neg hq]
  by_cases hk : 6144 ≤ L.val ∧ L.val < 6272
  · rw [if_pos hk, if_pos hk, Cert.InprojRefIdeal.Hand.v101_apply, Cert.InprojRefIdeal.Hand.k_rope]
    unfold rope2
    refine rope_congr (funext fun k => ?_) (twice_lanes _ _) (angle_lanes (fun p d => aC m c (ix3 ⟨R.val % 2048, by omega⟩ p d)) _)
      (angle_lanes (fun p d => aS m c (ix3 ⟨R.val % 2048, by omega⟩ p d)) _) (Fin.ext ?_)
    · have hk := k.isLt
      refine column m c R _ _ _ (Fin.ext (by dsimp only; omega)) (Fin.ext ?_)
      unfold src
      dsimp only
      split_ifs <;> omega
    · dsimp only; omega
  rw [if_neg hk, if_neg hk]
  exact column m c R R _ _ rfl rfl

/-- The mathematics' gate logits of the kernel's arguments are the array the kernel leaves. -/
theorem valueB : val_main_v104 (F := Ideal) (aX m c) (aN m c) (aW m c) = resultB m c := by
  funext y
  obtain ⟨R, l, rfl⟩ : ∃ (R : Fin 32768) (l : Fin 128), y = ix2 R l := ⟨_, _, Cert.InprojIdeal.Hand.eq_ix2 y⟩
  refine (Cert.InprojRefIdeal.Hand.v104_apply _ _ _ R l).trans ?_
  show _ = if h : l.val < 16 then rowProj (row (aX m c) R) (row (aN m c) 0) (fun i k => aW m c (ix3 0 i k)) ⟨2048 + l.val, by omega⟩ else (0 : EReal)
  by_cases h : l.val < 16
  · rw [dif_pos h, dif_pos h]
    exact column m c R R _ _ rfl rfl
  · rw [dif_neg h, dif_neg h]

/-- The kernel's two result arrays are the mathematics' on every index. -/
theorem algebraic : Cert.algebraic_InprojIdeal_InprojRefIdeal (hInprojIdeal := Cert.InprojIdeal.Gen.facts)
    (hInprojRefIdeal := Cert.InprojRefIdeal.Gen.facts) := by
  intro m ρ m' ρ' _ hagree
  refine ⟨_, _, Cert.InprojIdeal.Value.run_blocks (F := Ideal) m ρ, ?_⟩
  refine (θ_run Cert.InprojRefIdeal.defs _ _).mono (fun _ h c => ⟨(h c).1.trans ?_, (h c).2.1.trans ?_, (h c).2.2⟩)
    (Cert.InprojRefIdeal.Value.run (F := Ideal) m' ρ')
  · obtain ⟨a0, a1, a2, a3, a4, a5, a6⟩ := hagree c
    rw [Cert.InprojRefIdeal.Read.val_main_v105_eq]
    refine Eq.trans ?_ (Cert.InprojIdeal.Hand.final7 m c).symm
    have hv : ∀ b0 b1 b2 b3 b4 b5 b6, b0 = aX m c → b1 = aN m c → b2 = aW m c → b3 = aQ m c → b4 = aK m c → b5 = aC m c → b6 = aS m c →
        val_main_v105 b0 b1 b2 b3 b4 b5 b6 = resultP m c := by
      rintro _ _ _ _ _ _ _ rfl rfl rfl rfl rfl rfl rfl
      exact valueP m c
    exact hv _ _ _ _ _ _ _ a0 a1 a2 a3 a4 a5 a6
  · obtain ⟨a0, a1, a2, _⟩ := hagree c
    rw [Cert.InprojRefIdeal.Read.val_main_v104_eq]
    refine Eq.trans ?_ (Cert.InprojIdeal.Hand.final8 m c).symm
    have hv : ∀ b0 b1 b2, b0 = aX m c → b1 = aN m c → b2 = aW m c → val_main_v104 b0 b1 b2 = resultB m c := by
      rintro _ _ _ rfl rfl rfl
      exact valueB m c
    exact hv _ _ _ a0 a1 a2

end Cert.Proof.InprojClaims

end
-- ==== Proof.lean ====
module

public import proofs.«01_k».proof.Defs
public import proofs.«01_k».proof.Proof.GqaClaims
public import proofs.«01_k».proof.Proof.MergeClaims
public import proofs.«01_k».proof.Proof.InprojClaims

@[expose] public section

noncomputable section

namespace Cert.Proof

open Idealize.ShloMosaic Idealize.SL.Sem

/-- Everything the certificate claims. -/
theorem claim : Cert.Claim :=
  ⟨Cert.Gqa.Gen.facts, Cert.GqaIdeal.Gen.facts, Cert.GqaRefIdeal.Gen.facts, Cert.Merge.Gen.facts, Cert.MergeIdeal.Gen.facts,
    Cert.MergeRefIdeal.Gen.facts, Cert.Inproj.Gen.facts, Cert.InprojIdeal.Gen.facts, Cert.InprojRefIdeal.Gen.facts, GqaClaims.preFacts, MergeClaims.preFacts,
    GqaClaims.frame_p, GqaClaims.frame_pi, GqaClaims.frame_pi_pre, GqaClaims.frame_ri, GqaClaims.frame_ri_pre,
    MergeClaims.frame_p, MergeClaims.frame_pi, MergeClaims.frame_pi_pre, MergeClaims.frame_ri, MergeClaims.frame_ri_pre,
    InprojClaims.frame_p, InprojClaims.frame_pi, InprojClaims.frame_ri,
    trivial, GqaClaims.algebraic, MergeClaims.preserves, MergeClaims.algebraic, InprojClaims.preserves, InprojClaims.algebraic⟩

end Cert.Proof

end
